-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x3072 : Shape := ⟨3, ![12, 128, 3072]⟩
abbrev S8192x3072 : Shape := ⟨2, ![8192, 3072]⟩
abbrev S64x24 : Shape := ⟨2, ![64, 24]⟩
abbrev S1536x3072 : Shape := ⟨2, ![1536, 3072]⟩
abbrev S1536x4096 : Shape := ⟨2, ![1536, 4096]⟩
abbrev S1536x32 : Shape := ⟨2, ![1536, 32]⟩
abbrev S1536x24 : Shape := ⟨2, ![1536, 24]⟩
abbrev S256x3072 : Shape := ⟨2, ![256, 3072]⟩
abbrev S1536x256 : Shape := ⟨2, ![1536, 256]⟩
abbrev S128x24 : Shape := ⟨2, ![128, 24]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S1x1 : Shape := ⟨2, ![1, 1]⟩
abbrev S512x3072 : Shape := ⟨2, ![512, 3072]⟩
abbrev S512x256 : Shape := ⟨2, ![512, 256]⟩
abbrev S512x32 : Shape := ⟨2, ![512, 32]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 13
  | .smem => 1
  | _ => 0

abbrev bufTy : (tb : Table) → Fin (tcTables nBuf tb) → BufTy
  | .hbm, ⟨0, _⟩ => ⟨S12x128x3072, .bf16⟩
  | .hbm, ⟨1, _⟩ => ⟨S8192x3072, .fp8e4m3⟩
  | .hbm, ⟨2, _⟩ => ⟨S64x24, .f32⟩
  | .hbm, ⟨3, _⟩ => ⟨S1536x3072, .bf16⟩
  | .hbm, ⟨4, _⟩ => ⟨S1536x4096, .fp8e4m3⟩
  | .hbm, ⟨5, _⟩ => ⟨S1536x32, .f32⟩
  | .hbm, ⟨6, _⟩ => ⟨S1536x3072, .fp8e4m3⟩
  | .hbm, ⟨7, _⟩ => ⟨S1536x24, .f32⟩
  | .local _ .vmem, ⟨0, _⟩ => ⟨S1536x3072, .bf16⟩
  | .local _ .vmem, ⟨1, _⟩ => ⟨S256x3072, .fp8e4m3⟩
  | .local _ .vmem, ⟨2, _⟩ => ⟨S256x3072, .fp8e4m3⟩
  | .local _ .vmem, ⟨3, _⟩ => ⟨S256x3072, .fp8e4m3⟩
  | .local _ .vmem, ⟨4, _⟩ => ⟨S256x3072, .fp8e4m3⟩
  | .local _ .vmem, ⟨5, _⟩ => ⟨S1536x256, .fp8e4m3⟩
  | .local _ .vmem, ⟨6, _⟩ => ⟨S1536x256, .fp8e4m3⟩
  | .local _ .vmem, ⟨7, _⟩ => ⟨S1536x32, .f32⟩
  | .local _ .vmem, ⟨8, _⟩ => ⟨S1536x3072, .fp8e4m3⟩
  | .local _ .vmem, ⟨9, _⟩ => ⟨S1536x24, .f32⟩
  | .local _ .vmem, ⟨10, _⟩ => ⟨S1536x3072, .bf16⟩
  | .local _ .vmem, ⟨11, _⟩ => ⟨S256x3072, .bf16⟩
  | .local _ .vmem, ⟨12, _⟩ => ⟨S256x3072, .bf16⟩
  | .local _ .smem, ⟨0, _⟩ => ⟨S64x24, .f32⟩
  | _, _ => ⟨S12x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_681 : BitVec 32 := 0#32
  let c12_i32 : BitVec 32 := 12#32
  let v1410 : BitVec 32 := Scalar.addi c0_i32_681 c12_i32
  let c1_i32_682 : BitVec 32 := 1#32
  ⟨c0_i32_681, v1410, c1_i32_682⟩
def k0_mult1 (k0_t1 : Fin k0_t1_loop.trips) : BitVec 32 :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  v1413
def k0_off1 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v1417 : Index := Scalar.indexCast v1414
  let c0_687 : Index := 0#32
  ![v1417.toNat, 0]
def k0_off2 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v1480 : Index := Scalar.indexCast v1414
  let c128_707 : Index := 128#32
  ![v1480.toNat, 128]
def k0_off3 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v1543 : Index := Scalar.indexCast v1414
  let c256_727 : Index := 256#32
  ![v1543.toNat, 256]
def k0_off4 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v1606 : Index := Scalar.indexCast v1414
  let c384_747 : Index := 384#32
  ![v1606.toNat, 384]
def k0_off5 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v1669 : Index := Scalar.indexCast v1414
  let c512_766 : Index := 512#32
  ![v1669.toNat, 512]
def k0_off6 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v1732 : Index := Scalar.indexCast v1414
  let c640_785 : Index := 640#32
  ![v1732.toNat, 640]
def k0_off7 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v1795 : Index := Scalar.indexCast v1414
  let c768_804 : Index := 768#32
  ![v1795.toNat, 768]
def k0_off8 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v1858 : Index := Scalar.indexCast v1414
  let c896_823 : Index := 896#32
  ![v1858.toNat, 896]
def k0_off9 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v1921 : Index := Scalar.indexCast v1414
  let c1024_842 : Index := 1024#32
  ![v1921.toNat, 1024]
def k0_off10 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v1984 : Index := Scalar.indexCast v1414
  let c1152_861 : Index := 1152#32
  ![v1984.toNat, 1152]
def k0_off11 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2047 : Index := Scalar.indexCast v1414
  let c1280_880 : Index := 1280#32
  ![v2047.toNat, 1280]
def k0_off12 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2110 : Index := Scalar.indexCast v1414
  let c1408_899 : Index := 1408#32
  ![v2110.toNat, 1408]
def k0_off13 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2173 : Index := Scalar.indexCast v1414
  let c1536_918 : Index := 1536#32
  ![v2173.toNat, 1536]
def k0_off14 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2236 : Index := Scalar.indexCast v1414
  let c1664_938 : Index := 1664#32
  ![v2236.toNat, 1664]
def k0_off15 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2299 : Index := Scalar.indexCast v1414
  let c1792_957 : Index := 1792#32
  ![v2299.toNat, 1792]
def k0_off16 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2362 : Index := Scalar.indexCast v1414
  let c1920_976 : Index := 1920#32
  ![v2362.toNat, 1920]
def k0_off17 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2425 : Index := Scalar.indexCast v1414
  let c2048_995 : Index := 2048#32
  ![v2425.toNat, 2048]
def k0_off18 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2488 : Index := Scalar.indexCast v1414
  let c2176_1015 : Index := 2176#32
  ![v2488.toNat, 2176]
def k0_off19 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2551 : Index := Scalar.indexCast v1414
  let c2304_1034 : Index := 2304#32
  ![v2551.toNat, 2304]
def k0_off20 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2614 : Index := Scalar.indexCast v1414
  let c2432_1053 : Index := 2432#32
  ![v2614.toNat, 2432]
def k0_off21 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2677 : Index := Scalar.indexCast v1414
  let c2560_1072 : Index := 2560#32
  ![v2677.toNat, 2560]
def k0_off22 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2740 : Index := Scalar.indexCast v1414
  let c2688_1091 : Index := 2688#32
  ![v2740.toNat, 2688]
def k0_off23 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2803 : Index := Scalar.indexCast v1414
  let c2816_1110 : Index := 2816#32
  ![v2803.toNat, 2816]
def k0_off24 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2866 : Index := Scalar.indexCast v1414
  let c2944_1129 : Index := 2944#32
  ![v2866.toNat, 2944]
def k0_off25 (k0_t1 : Fin k0_t1_loop.trips) : Fin 2 → Nat :=
  let c0_i32_685 : BitVec 32 := 0#32
  let c0_i32_681 : BitVec 32 := 0#32
  let c1_i32_682 : BitVec 32 := 1#32
  let arg12 : BitVec 32 := Scf.iv c0_i32_681 c1_i32_682 k0_t1
  let c1_i32_684 : BitVec 32 := 1#32
  let v1411 : BitVec 32 := Scalar.muli arg12 c1_i32_684
  let v1412 : BitVec 32 := Scalar.addi c0_i32_685 v1411
  let c128_i32 : BitVec 32 := 128#32
  let v1413 : BitVec 32 := Scalar.muli v1412 c128_i32
  let v1414 : BitVec 32 := v1413
  let v2929 : Index := Scalar.indexCast v1414
  let c0_1149 : Index := 0#32
  ![v2929.toNat, 0]
def k0_off26 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let v5 : Index := Scalar.indexCast v4
  let c0 : Index := 0#32
  ![v5.toNat, 0]
def k0_off27 (i : grid0.Coords) (c0_i32_6 : BitVec 32) : Fin 2 → Nat :=
  let arg0 : BitVec 32 := BitVec.ofNat 32 (i 0).val
  let c2_i32 : BitVec 32 := 2#32
  let v3 : BitVec 32 := Scalar.muli arg0 c2_i32
  let v15 : BitVec 32 := Scalar.addi v3 c0_i32_6
  let v16 : Index := Scalar.indexCast v15
  let c1 : Index := 1#32
  ![v16.toNat, 1]
def k0_off28 (i : grid0.Coords) (c0_i32_10 : BitVec 32) : Fin 2 → Nat :=
  let arg0 : BitVec 32 := BitVec.ofNat 32 (i 0).val
  let c2_i32 : BitVec 32 := 2#32
  let v3 : BitVec 32 := Scalar.muli arg0 c2_i32
  let v26 : BitVec 32 := Scalar.addi v3 c0_i32_10
  let v27 : Index := Scalar.indexCast v26
  let c2 : Index := 2#32
  ![v27.toNat, 2]
def k0_off29 (i : grid0.Coords) (c0_i32_14 : BitVec 32) : Fin 2 → Nat :=
  let arg0 : BitVec 32 := BitVec.ofNat 32 (i 0).val
  let c2_i32 : BitVec 32 := 2#32
  let v3 : BitVec 32 := Scalar.muli arg0 c2_i32
  let v37 : BitVec 32 := Scalar.addi v3 c0_i32_14
  let v38 : Index := Scalar.indexCast v37
  let c3 : Index := 3#32
  ![v38.toNat, 3]
def k0_off30 (i : grid0.Coords) (c0_i32_18 : BitVec 32) : Fin 2 → Nat :=
  let arg0 : BitVec 32 := BitVec.ofNat 32 (i 0).val
  let c2_i32 : BitVec 32 := 2#32
  let v3 : BitVec 32 := Scalar.muli arg0 c2_i32
  let v48 : BitVec 32 := Scalar.addi v3 c0_i32_18
  let v49 : Index := Scalar.indexCast v48
  let c4 : Index := 4#32
  ![v49.toNat, 4]
def k0_off31 (i : grid0.Coords) (c0_i32_22 : BitVec 32) : Fin 2 → Nat :=
  let arg0 : BitVec 32 := BitVec.ofNat 32 (i 0).val
  let c2_i32 : BitVec 32 := 2#32
  let v3 : BitVec 32 := Scalar.muli arg0 c2_i32
  let v59 : BitVec 32 := Scalar.addi v3 c0_i32_22
  let v60 : Index := Scalar.indexCast v59
  let c5 : Index := 5#32
  ![v60.toNat, 5]
def k0_off32 (i : grid0.Coords) (c0_i32_26 : BitVec 32) : Fin 2 → Nat :=
  let arg0 : BitVec 32 := BitVec.ofNat 32 (i 0).val
  let c2_i32 : BitVec 32 := 2#32
  let v3 : BitVec 32 := Scalar.muli arg0 c2_i32
  let v70 : BitVec 32 := Scalar.addi v3 c0_i32_26
  let v71 : Index := Scalar.indexCast v70
  let c6 : Index := 6#32
  ![v71.toNat, 6]
def k0_off33 (i : grid0.Coords) (c0_i32_30 : BitVec 32) : Fin 2 → Nat :=
  let arg0 : BitVec 32 := BitVec.ofNat 32 (i 0).val
  let c2_i32 : BitVec 32 := 2#32
  let v3 : BitVec 32 := Scalar.muli arg0 c2_i32
  let v81 : BitVec 32 := Scalar.addi v3 c0_i32_30
  let v82 : Index := Scalar.indexCast v81
  let c7 : Index := 7#32
  ![v82.toNat, 7]
def k0_off34 (i : grid0.Coords) (c0_i32_34 : BitVec 32) : Fin 2 → Nat :=
  let arg0 : BitVec 32 := BitVec.ofNat 32 (i 0).val
  let c2_i32 : BitVec 32 := 2#32
  let v3 : BitVec 32 := Scalar.muli arg0 c2_i32
  let v92 : BitVec 32 := Scalar.addi v3 c0_i32_34
  let v93 : Index := Scalar.indexCast v92
  let c8 : Index := 8#32
  ![v93.toNat, 8]
def k0_off35 (i : grid0.Coords) (c0_i32_38 : BitVec 32) : Fin 2 → Nat :=
  let arg0 : BitVec 32 := BitVec.ofNat 32 (i 0).val
  let c2_i32 : BitVec 32 := 2#32
  let v3 : BitVec 32 := Scalar.muli arg0 c2_i32
  let v103 : BitVec 32 := Scalar.addi v3 c0_i32_38
  let v104 : Index := Scalar.indexCast v103
  let c9 : Index := 9#32
  ![v104.toNat, 9]
def k0_off36 (i : grid0.Coords) (c0_i32_42 : BitVec 32) : Fin 2 → Nat :=
  let arg0 : BitVec 32 := BitVec.ofNat 32 (i 0).val
  let c2_i32 : BitVec 32 := 2#32
  let v3 : BitVec 32 := Scalar.muli arg0 c2_i32
  let v114 : BitVec 32 := Scalar.addi v3 c0_i32_42
  let v115 : Index := Scalar.indexCast v114
  let c10 : Index := 10#32
  ![v115.toNat, 10]
def k0_off37 (i : grid0.Coords) (c0_i32_46 : BitVec 32) : Fin 2 → Nat :=
  let arg0 : BitVec 32 := BitVec.ofNat 32 (i 0).val
  let c2_i32 : BitVec 32 := 2#32
  let v3 : BitVec 32 := Scalar.muli arg0 c2_i32
  let v125 : BitVec 32 := Scalar.addi v3 c0_i32_46
  let v126 : Index := Scalar.indexCast v125
  let c11 : Index := 11#32
  ![v126.toNat, 11]
def k0_off38 (i : grid0.Coords) (c0_i32_50 : BitVec 32) : Fin 2 → Nat :=
  let arg0 : BitVec 32 := BitVec.ofNat 32 (i 0).val
  let c2_i32 : BitVec 32 := 2#32
  let v3 : BitVec 32 := Scalar.muli arg0 c2_i32
  let v136 : BitVec 32 := Scalar.addi v3 c0_i32_50
  let v137 : Index := Scalar.indexCast v136
  let c12 : Index := 12#32
  ![v137.toNat, 12]
def k0_off39 (i : grid0.Coords) (c0_i32_54 : BitVec 32) : Fin 2 → Nat :=
  let arg0 : BitVec 32 := BitVec.ofNat 32 (i 0).val
  let c2_i32 : BitVec 32 := 2#32
  let v3 : BitVec 32 := Scalar.muli arg0 c2_i32
  let v147 : BitVec 32 := Scalar.addi v3 c0_i32_54
  let v148 : Index := Scalar.indexCast v147
  let c13 : Index := 13#32
  ![v148.toNat, 13]
def k0_off40 (i : grid0.Coords) (c0_i32_58 : BitVec 32) : Fin 2 → Nat :=
  let arg0 : BitVec 32 := BitVec.ofNat 32 (i 0).val
  let c2_i32 : BitVec 32 := 2#32
  let v3 : BitVec 32 := Scalar.muli arg0 c2_i32
  let v158 : BitVec 32 := Scalar.addi v3 c0_i32_58
  let v159 : Index := Scalar.indexCast v158
  let c14 : Index := 14#32
  ![v159.toNat, 14]
def k0_off41 (i : grid0.Coords) (c0_i32_62 : BitVec 32) : Fin 2 → Nat :=
  let arg0 : BitVec 32 := BitVec.ofNat 32 (i 0).val
  let c2_i32 : BitVec 32 := 2#32
  let v3 : BitVec 32 := Scalar.muli arg0 c2_i32
  let v169 : BitVec 32 := Scalar.addi v3 c0_i32_62
  let v170 : Index := Scalar.indexCast v169
  let c15 : Index := 15#32
  ![v170.toNat, 15]
def k0_off42 (i : grid0.Coords) (c0_i32_66 : BitVec 32) : Fin 2 → Nat :=
  let arg0 : BitVec 32 := BitVec.ofNat 32 (i 0).val
  let c2_i32 : BitVec 32 := 2#32
  let v3 : BitVec 32 := Scalar.muli arg0 c2_i32
  let v180 : BitVec 32 := Scalar.addi v3 c0_i32_66
  let v181 : Index := Scalar.indexCast v180
  let c16 : Index := 16#32
  ![v181.toNat, 16]
def k0_off43 (i : grid0.Coords) (c0_i32_70 : BitVec 32) : Fin 2 → Nat :=
  let arg0 : BitVec 32 := BitVec.ofNat 32 (i 0).val
  let c2_i32 : BitVec 32 := 2#32
  let v3 : BitVec 32 := Scalar.muli arg0 c2_i32
  let v191 : BitVec 32 := Scalar.addi v3 c0_i32_70
  let v192 : Index := Scalar.indexCast v191
  let c17 : Index := 17#32
  ![v192.toNat, 17]
def k0_off44 (i : grid0.Coords) (c0_i32_74 : BitVec 32) : Fin 2 → Nat :=
  let arg0 : BitVec 32 := BitVec.ofNat 32 (i 0).val
  let c2_i32 : BitVec 32 := 2#32
  let v3 : BitVec 32 := Scalar.muli arg0 c2_i32
  let v202 : BitVec 32 := Scalar.addi v3 c0_i32_74
  let v203 : Index := Scalar.indexCast v202
  let c18 : Index := 18#32
  ![v203.toNat, 18]
def k0_off45 (i : grid0.Coords) (c0_i32_78 : BitVec 32) : Fin 2 → Nat :=
  let arg0 : BitVec 32 := BitVec.ofNat 32 (i 0).val
  let c2_i32 : BitVec 32 := 2#32
  let v3 : BitVec 32 := Scalar.muli arg0 c2_i32
  let v213 : BitVec 32 := Scalar.addi v3 c0_i32_78
  let v214 : Index := Scalar.indexCast v213
  let c19 : Index := 19#32
  ![v214.toNat, 19]
def k0_off46 (i : grid0.Coords) (c0_i32_82 : BitVec 32) : Fin 2 → Nat :=
  let arg0 : BitVec 32 := BitVec.ofNat 32 (i 0).val
  let c2_i32 : BitVec 32 := 2#32
  let v3 : BitVec 32 := Scalar.muli arg0 c2_i32
  let v224 : BitVec 32 := Scalar.addi v3 c0_i32_82
  let v225 : Index := Scalar.indexCast v224
  let c20 : Index := 20#32
  ![v225.toNat, 20]
def k0_off47 (i : grid0.Coords) (c0_i32_86 : BitVec 32) : Fin 2 → Nat :=
  let arg0 : BitVec 32 := BitVec.ofNat 32 (i 0).val
  let c2_i32 : BitVec 32 := 2#32
  let v3 : BitVec 32 := Scalar.muli arg0 c2_i32
  let v235 : BitVec 32 := Scalar.addi v3 c0_i32_86
  let v236 : Index := Scalar.indexCast v235
  let c21 : Index := 21#32
  ![v236.toNat, 21]
def k0_off48 (i : grid0.Coords) (c0_i32_90 : BitVec 32) : Fin 2 → Nat :=
  let arg0 : BitVec 32 := BitVec.ofNat 32 (i 0).val
  let c2_i32 : BitVec 32 := 2#32
  let v3 : BitVec 32 := Scalar.muli arg0 c2_i32
  let v246 : BitVec 32 := Scalar.addi v3 c0_i32_90
  let v247 : Index := Scalar.indexCast v246
  let c22 : Index := 22#32
  ![v247.toNat, 22]
def k0_off49 (i : grid0.Coords) (c0_i32_94 : BitVec 32) : Fin 2 → Nat :=
  let arg0 : BitVec 32 := BitVec.ofNat 32 (i 0).val
  let c2_i32 : BitVec 32 := 2#32
  let v3 : BitVec 32 := Scalar.muli arg0 c2_i32
  let v257 : BitVec 32 := Scalar.addi v3 c0_i32_94
  let v258 : Index := Scalar.indexCast v257
  let c23 : Index := 23#32
  ![v258.toNat, 23]
def k0_off50 (i : grid0.Coords) (c0_i32_242 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v534 : BitVec 32 := Scalar.addi v533 c0_i32_242
  let v535 : Index := Scalar.indexCast v534
  let c0_243 : Index := 0#32
  ![v535.toNat, 0]
def k0_off51 (i : grid0.Coords) (c0_i32_248 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v545 : BitVec 32 := Scalar.addi v533 c0_i32_248
  let v546 : Index := Scalar.indexCast v545
  let c1_249 : Index := 1#32
  ![v546.toNat, 1]
def k0_off52 (i : grid0.Coords) (c0_i32_254 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v556 : BitVec 32 := Scalar.addi v533 c0_i32_254
  let v557 : Index := Scalar.indexCast v556
  let c2_255 : Index := 2#32
  ![v557.toNat, 2]
def k0_off53 (i : grid0.Coords) (c0_i32_260 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v567 : BitVec 32 := Scalar.addi v533 c0_i32_260
  let v568 : Index := Scalar.indexCast v567
  let c3_261 : Index := 3#32
  ![v568.toNat, 3]
def k0_off54 (i : grid0.Coords) (c0_i32_266 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v578 : BitVec 32 := Scalar.addi v533 c0_i32_266
  let v579 : Index := Scalar.indexCast v578
  let c4_267 : Index := 4#32
  ![v579.toNat, 4]
def k0_off55 (i : grid0.Coords) (c0_i32_272 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v589 : BitVec 32 := Scalar.addi v533 c0_i32_272
  let v590 : Index := Scalar.indexCast v589
  let c5_273 : Index := 5#32
  ![v590.toNat, 5]
def k0_off56 (i : grid0.Coords) (c0_i32_278 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v600 : BitVec 32 := Scalar.addi v533 c0_i32_278
  let v601 : Index := Scalar.indexCast v600
  let c6_279 : Index := 6#32
  ![v601.toNat, 6]
def k0_off57 (i : grid0.Coords) (c0_i32_284 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v611 : BitVec 32 := Scalar.addi v533 c0_i32_284
  let v612 : Index := Scalar.indexCast v611
  let c7_285 : Index := 7#32
  ![v612.toNat, 7]
def k0_off58 (i : grid0.Coords) (c0_i32_290 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v622 : BitVec 32 := Scalar.addi v533 c0_i32_290
  let v623 : Index := Scalar.indexCast v622
  let c8_291 : Index := 8#32
  ![v623.toNat, 8]
def k0_off59 (i : grid0.Coords) (c0_i32_296 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v633 : BitVec 32 := Scalar.addi v533 c0_i32_296
  let v634 : Index := Scalar.indexCast v633
  let c9_297 : Index := 9#32
  ![v634.toNat, 9]
def k0_off60 (i : grid0.Coords) (c0_i32_302 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v644 : BitVec 32 := Scalar.addi v533 c0_i32_302
  let v645 : Index := Scalar.indexCast v644
  let c10_303 : Index := 10#32
  ![v645.toNat, 10]
def k0_off61 (i : grid0.Coords) (c0_i32_308 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v655 : BitVec 32 := Scalar.addi v533 c0_i32_308
  let v656 : Index := Scalar.indexCast v655
  let c11_309 : Index := 11#32
  ![v656.toNat, 11]
def k0_off62 (i : grid0.Coords) (c0_i32_314 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v666 : BitVec 32 := Scalar.addi v533 c0_i32_314
  let v667 : Index := Scalar.indexCast v666
  let c12_315 : Index := 12#32
  ![v667.toNat, 12]
def k0_off63 (i : grid0.Coords) (c0_i32_320 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v677 : BitVec 32 := Scalar.addi v533 c0_i32_320
  let v678 : Index := Scalar.indexCast v677
  let c13_321 : Index := 13#32
  ![v678.toNat, 13]
def k0_off64 (i : grid0.Coords) (c0_i32_326 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v688 : BitVec 32 := Scalar.addi v533 c0_i32_326
  let v689 : Index := Scalar.indexCast v688
  let c14_327 : Index := 14#32
  ![v689.toNat, 14]
def k0_off65 (i : grid0.Coords) (c0_i32_332 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v699 : BitVec 32 := Scalar.addi v533 c0_i32_332
  let v700 : Index := Scalar.indexCast v699
  let c15_333 : Index := 15#32
  ![v700.toNat, 15]
def k0_off66 (i : grid0.Coords) (c0_i32_338 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v710 : BitVec 32 := Scalar.addi v533 c0_i32_338
  let v711 : Index := Scalar.indexCast v710
  let c16_339 : Index := 16#32
  ![v711.toNat, 16]
def k0_off67 (i : grid0.Coords) (c0_i32_344 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v721 : BitVec 32 := Scalar.addi v533 c0_i32_344
  let v722 : Index := Scalar.indexCast v721
  let c17_345 : Index := 17#32
  ![v722.toNat, 17]
def k0_off68 (i : grid0.Coords) (c0_i32_350 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v732 : BitVec 32 := Scalar.addi v533 c0_i32_350
  let v733 : Index := Scalar.indexCast v732
  let c18_351 : Index := 18#32
  ![v733.toNat, 18]
def k0_off69 (i : grid0.Coords) (c0_i32_356 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v743 : BitVec 32 := Scalar.addi v533 c0_i32_356
  let v744 : Index := Scalar.indexCast v743
  let c19_357 : Index := 19#32
  ![v744.toNat, 19]
def k0_off70 (i : grid0.Coords) (c0_i32_362 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v754 : BitVec 32 := Scalar.addi v533 c0_i32_362
  let v755 : Index := Scalar.indexCast v754
  let c20_363 : Index := 20#32
  ![v755.toNat, 20]
def k0_off71 (i : grid0.Coords) (c0_i32_368 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v765 : BitVec 32 := Scalar.addi v533 c0_i32_368
  let v766 : Index := Scalar.indexCast v765
  let c21_369 : Index := 21#32
  ![v766.toNat, 21]
def k0_off72 (i : grid0.Coords) (c0_i32_374 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v776 : BitVec 32 := Scalar.addi v533 c0_i32_374
  let v777 : Index := Scalar.indexCast v776
  let c22_375 : Index := 22#32
  ![v777.toNat, 22]
def k0_off73 (i : grid0.Coords) (c0_i32_380 : BitVec 32) : Fin 2 → Nat :=
  let c16_i32 : BitVec 32 := 16#32
  let arg0 : BitVec 32 := BitVec.ofNat 32 (i 0).val
  let v532 : BitVec 32 := Scalar.addi c16_i32 arg0
  let c2_i32_241 : BitVec 32 := 2#32
  let v533 : BitVec 32 := Scalar.muli v532 c2_i32_241
  let v787 : BitVec 32 := Scalar.addi v533 c0_i32_380
  let v788 : Index := Scalar.indexCast v787
  let c23_381 : Index := 23#32
  ![v788.toNat, 23]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S64x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S12x128x3072 : Shape := ⟨3, ![12, 128, 3072]⟩
abbrev S8192x3072 : Shape := ⟨2, ![8192, 3072]⟩
abbrev S64x24 : Shape := ⟨2, ![64, 24]⟩
abbrev S1536x3072 : Shape := ⟨2, ![1536, 3072]⟩
abbrev S1536x4096 : Shape := ⟨2, ![1536, 4096]⟩
abbrev S1536x32 : Shape := ⟨2, ![1536, 32]⟩
abbrev S1536x24 : Shape := ⟨2, ![1536, 24]⟩
abbrev S1536x24x128 : Shape := ⟨3, ![1536, 24, 128]⟩
abbrev S1536x24x253 : Shape := ⟨3, ![1536, 24, 253]⟩
abbrev S1536x24x1 : Shape := ⟨3, ![1536, 24, 1]⟩
abbrev S64x128x24x128 : Shape := ⟨4, ![64, 128, 24, 128]⟩
abbrev S64x1x24x1 : Shape := ⟨4, ![64, 1, 24, 1]⟩
abbrev S1536x8192 : Shape := ⟨2, ![1536, 8192]⟩
abbrev S1536x32x128 : Shape := ⟨3, ![1536, 32, 128]⟩
abbrev S1536x32x253 : Shape := ⟨3, ![1536, 32, 253]⟩
abbrev S1536x32x1 : Shape := ⟨3, ![1536, 32, 1]⟩

abbrev nBuf : Space → Nat
  | .hbm => 8
  | .vmem => 7
  | .smem => 0
  | _ => 0

abbrev bufTy : (tb : Table) → Fin (tcTables nBuf tb) → BufTy
  | .hbm, ⟨0, _⟩ => ⟨S12x128x3072, .bf16⟩
  | .hbm, ⟨1, _⟩ => ⟨S8192x3072, .fp8e4m3⟩
  | .hbm, ⟨2, _⟩ => ⟨S64x24, .f32⟩
  | .hbm, ⟨3, _⟩ => ⟨S1536x3072, .bf16⟩
  | .hbm, ⟨4, _⟩ => ⟨S1536x4096, .fp8e4m3⟩
  | .hbm, ⟨5, _⟩ => ⟨S1536x32, .f32⟩
  | .hbm, ⟨6, _⟩ => ⟨S1536x3072, .fp8e4m3⟩
  | .hbm, ⟨7, _⟩ => ⟨S1536x24, .f32⟩
  | .local _ .vmem, ⟨0, _⟩ => ⟨S1536x3072, .bf16⟩
  | .local _ .vmem, ⟨1, _⟩ => ⟨S8192x3072, .fp8e4m3⟩
  | .local _ .vmem, ⟨2, _⟩ => ⟨S64x24, .f32⟩
  | .local _ .vmem, ⟨3, _⟩ => ⟨S1536x4096, .fp8e4m3⟩
  | .local _ .vmem, ⟨4, _⟩ => ⟨S1536x32, .f32⟩
  | .local _ .vmem, ⟨5, _⟩ => ⟨S1536x3072, .fp8e4m3⟩
  | .local _ .vmem, ⟨6, _⟩ => ⟨S1536x24, .f32⟩
  | _, _ => ⟨S12x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.Point.lean ====
module

public import proofs.«01_k».proof.Proof.Gen.Kernel.Launch
public import proofs.«01_k».proof.Proof.Gen.Kernel.Skeleton
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

/-! What the runs of the body of `Kernel` share: the condition of its first-point branch, the memrefs it is called with, the invariant. -/

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame claim's post from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 3 rfl).trans ((hA c 3).trans (V_main_arg1 m c)),
      (Pipeline.RDat.FramePost.arr_in h c 0 rfl).trans ((hA c 0).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S64x24 .f32 := win0_0.stage (cfg0.slots t 0)
/-- Window 0's staging memref is a whole buffer. -/
abbrev hs0_0 (t : Fin cfg0.N) : (ms0_0 t).IsWhole := hstage0_0 ((cfg0.slots t 0).cast nbuf0_0)
/-- Window 1's current staging memref at point `t`. -/
abbrev ms0_1 (t : Fin cfg0.N) : Memref sig .tc .vmem S1536x3072 .bf16 := win0_1.stage (cfg0.slots t 1)
/-- Window 1's staging memref is a whole buffer. -/
abbrev hs0_1 (t : Fin cfg0.N) : (ms0_1 t).IsWhole := hstage0_1 ((cfg0.slots t 1).cast nbuf0_1)
/-- Window 2's current staging memref at point `t`. -/
abbrev ms0_2 (t : Fin cfg0.N) : Memref sig .tc .vmem S256x3072 .fp8e4m3 := win0_2.stage (cfg0.slots t 2)
/-- Window 2's staging memref is a whole buffer. -/
abbrev hs0_2 (t : Fin cfg0.N) : (ms0_2 t).IsWhole := hstage0_2 ((cfg0.slots t 2).cast nbuf0_2)
/-- Window 3's current staging memref at point `t`. -/
abbrev ms0_3 (t : Fin cfg0.N) : Memref sig .tc .vmem S256x3072 .fp8e4m3 := win0_3.stage (cfg0.slots t 3)
/-- Window 3's staging memref is a whole buffer. -/
abbrev hs0_3 (t : Fin cfg0.N) : (ms0_3 t).IsWhole := hstage0_3 ((cfg0.slots t 3).cast nbuf0_3)
/-- Window 4's current staging memref at point `t`. -/
abbrev ms0_4 (t : Fin cfg0.N) : Memref sig .tc .vmem S1536x256 .fp8e4m3 := win0_4.stage (cfg0.slots t 4)
/-- Window 4's staging memref is a whole buffer. -/
abbrev hs0_4 (t : Fin cfg0.N) : (ms0_4 t).IsWhole := hstage0_4 ((cfg0.slots t 4).cast nbuf0_4)
/-- Window 5's current staging memref at point `t`. -/
abbrev ms0_5 (t : Fin cfg0.N) : Memref sig .tc .vmem S1536x32 .f32 := win0_5.stage (cfg0.slots t 5)
/-- Window 5's staging memref is a whole buffer. -/
abbrev hs0_5 (t : Fin cfg0.N) : (ms0_5 t).IsWhole := hstage0_5 ((cfg0.slots t 5).cast nbuf0_5)
/-- Window 6's current staging memref at point `t`. -/
abbrev ms0_6 (t : Fin cfg0.N) : Memref sig .tc .vmem S1536x3072 .fp8e4m3 := win0_6.stage (cfg0.slots t 6)
/-- Window 6's staging memref is a whole buffer. -/
abbrev hs0_6 (t : Fin cfg0.N) : (ms0_6 t).IsWhole := hstage0_6 ((cfg0.slots t 6).cast nbuf0_6)
/-- Window 7's current staging memref at point `t`. -/
abbrev ms0_7 (t : Fin cfg0.N) : Memref sig .tc .vmem S1536x24 .f32 := win0_7.stage (cfg0.slots t 7)
/-- Window 7's staging memref is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1536x3072 .bf16 := Memref.whole cc0_scratch0
/-- The scratch that holds the dequantised gate weight. -/
abbrev scM0_1 : Memref sig .tc .vmem S256x3072 .bf16 := Memref.whole cc0_scratch1
/-- The scratch that holds the dequantised up weight. -/
abbrev scM0_2 : Memref sig .tc .vmem S256x3072 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KernelFrame.RunA.lean ====
/- The kernel body's run at the first grid point of `Kernel`, as far as the frame claim
   needs it: the inputs' staging memrefs end as they were, and nothing is said of what the outputs and the scratch end with. -/
module

public import proofs.«01_k».proof.Proof.KernelFrame.Point
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3280000 in
/-- The body's triple IN CASE A (`scf.if` 0 taken: points 0): on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S64x24 .f32) (harg1 : arg1.IsWhole) (arg2 : Memref sig .tc .vmem S1536x3072 .bf16) (harg2 : arg2.IsWhole) (arg3 : Memref sig .tc .vmem S256x3072 .fp8e4m3) (harg3 : arg3.IsWhole) (arg4 : Memref sig .tc .vmem S256x3072 .fp8e4m3) (harg4 : arg4.IsWhole) (arg5 : Memref sig .tc .vmem S1536x256 .fp8e4m3) (harg5 : arg5.IsWhole) (arg6 : Memref sig .tc .vmem S1536x32 .f32) (harg6 : arg6.IsWhole) (arg7 : Memref sig .tc .vmem S1536x3072 .fp8e4m3) (harg7 : arg7.IsWhole) (arg8 : Memref sig .tc .vmem S1536x24 .f32) (harg8 : arg8.IsWhole) (arg9 : Memref sig .tc .vmem S1536x3072 .bf16) (harg9 : arg9.IsWhole) (arg10 : Memref sig .tc .vmem S256x3072 .bf16) (harg10 : arg10.IsWhole) (arg11 : Memref sig .tc .vmem S256x3072 .bf16) (harg11 : arg11.IsWhole) (hc0 : cond0_0 i)
    (x0 : Vec F S64x24 .f32) (x1 : Vec F S1536x3072 .bf16) (x2 : Vec F S256x3072 .fp8e4m3) (x3 : Vec F S256x3072 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
    intro E K
    simp only [cc0__body_eq_skeleton]; unfold cc0__body_skel
    simp only [k0_part69_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KernelFrame.RunB.lean ====
/- The kernel body's run at the grid points after the first of `Kernel`, as far as the frame claim
   needs it: the inputs' staging memrefs end as they were, and nothing is said of what the outputs and the scratch end with. -/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3208000 in
/-- The body's triple IN CASE B (`scf.if` 0 not taken: points 1, 2, … 15: 15 of 16): on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S64x24 .f32) (harg1 : arg1.IsWhole) (arg2 : Memref sig .tc .vmem S1536x3072 .bf16) (harg2 : arg2.IsWhole) (arg3 : Memref sig .tc .vmem S256x3072 .fp8e4m3) (harg3 : arg3.IsWhole) (arg4 : Memref sig .tc .vmem S256x3072 .fp8e4m3) (harg4 : arg4.IsWhole) (arg5 : Memref sig .tc .vmem S1536x256 .fp8e4m3) (harg5 : arg5.IsWhole) (arg6 : Memref sig .tc .vmem S1536x32 .f32) (harg6 : arg6.IsWhole) (arg7 : Memref sig .tc .vmem S1536x3072 .fp8e4m3) (harg7 : arg7.IsWhole) (arg8 : Memref sig .tc .vmem S1536x24 .f32) (harg8 : arg8.IsWhole) (arg9 : Memref sig .tc .vmem S1536x3072 .bf16) (harg9 : arg9.IsWhole) (arg10 : Memref sig .tc .vmem S256x3072 .bf16) (harg10 : arg10.IsWhole) (arg11 : Memref sig .tc .vmem S256x3072 .bf16) (harg11 : arg11.IsWhole) (hc0 : ¬cond0_0 i)
    (x0 : Vec F S64x24 .f32) (x1 : Vec F S1536x3072 .bf16) (x2 : Vec F S256x3072 .fp8e4m3) (x3 : Vec F S256x3072 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
    intro E K
    simp only [cc0__body_eq_skeleton]; unfold cc0__body_skel
    simp only [k0_part69_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KernelFrame.Frame.lean ====
/- The frame claim of `Kernel`: the pipeline's proof data with the outputs' contents left unstated, the body's obligation at
   every grid point (from the runs of the two cases), the run of the program, and `frame`: it ends, its arguments are as they
   were and every semaphore counter is at zero. -/
module

public import proofs.«01_k».proof.Proof.KernelFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows (4, 5, 6, 7) of which the frame claim says nothing (Lib/Pipeline/Dat.lean `Dat.toRForget`). -/
def forgets0 : Fin 8 → Bool := fun w => w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The same for window 1. -/
theorem after0_1 (c : Dev nD) (t : Fin cfg0.N) : (dats m 0 c).after 1 t = iblk m c 1 t := by dsimp only [dats]
/-- The same for window 2. -/
theorem after0_2 (c : Dev nD) (t : Fin cfg0.N) : (dats m 0 c).after 2 t = iblk m c 2 t := by dsimp only [dats]
/-- The same for window 3. -/
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The same for window 1. -/
theorem before0_1 (c : Dev nD) (t : Fin cfg0.N) (d) : (dats m 0 c).before 1 t d = iblk m c 1 t :=
  before0_1_of m (dats m 0 c) (A_eq m c 1) (after0_1 m c) t d
/-- The same for window 2. -/
theorem before0_2 (c : Dev nD) (t : Fin cfg0.N) (d) : (dats m 0 c).before 2 t d = iblk m c 2 t :=
  before0_2_of m (dats m 0 c) (A_eq m c 2) (after0_2 m c) t d
/-- The same for window 3. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val % 16 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofR m ρ (fun c => (dats m 0 c).toRForget forgets0) (A_eq m) (run_main m ρ)

/-- The frame claim at any carrier of floats: the program ends, its arguments are as they were, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Point.lean ====
module

public import proofs.«01_k».proof.Proof.Gen.KernelIdeal.Launch
public import proofs.«01_k».proof.Proof.Gen.KernelIdeal.Skeleton
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

/-! What the runs of the body of `KernelIdeal` share: the condition of its first-point branch, the memrefs it is called with, the invariant. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame claim's post from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 3 rfl).trans ((hA c 3).trans (V_main_arg1 m c)),
      (Pipeline.RDat.FramePost.arr_in h c 0 rfl).trans ((hA c 0).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S64x24 .f32 := win0_0.stage (cfg0.slots t 0)
/-- Window 0's staging memref is a whole buffer. -/
abbrev hs0_0 (t : Fin cfg0.N) : (ms0_0 t).IsWhole := hstage0_0 ((cfg0.slots t 0).cast nbuf0_0)
/-- Window 1's current staging memref at point `t`. -/
abbrev ms0_1 (t : Fin cfg0.N) : Memref sig .tc .vmem S1536x3072 .bf16 := win0_1.stage (cfg0.slots t 1)
/-- Window 1's staging memref is a whole buffer. -/
abbrev hs0_1 (t : Fin cfg0.N) : (ms0_1 t).IsWhole := hstage0_1 ((cfg0.slots t 1).cast nbuf0_1)
/-- Window 2's current staging memref at point `t`. -/
abbrev ms0_2 (t : Fin cfg0.N) : Memref sig .tc .vmem S256x3072 .fp8e4m3 := win0_2.stage (cfg0.slots t 2)
/-- Window 2's staging memref is a whole buffer. -/
abbrev hs0_2 (t : Fin cfg0.N) : (ms0_2 t).IsWhole := hstage0_2 ((cfg0.slots t 2).cast nbuf0_2)
/-- Window 3's current staging memref at point `t`. -/
abbrev ms0_3 (t : Fin cfg0.N) : Memref sig .tc .vmem S256x3072 .fp8e4m3 := win0_3.stage (cfg0.slots t 3)
/-- Window 3's staging memref is a whole buffer. -/
abbrev hs0_3 (t : Fin cfg0.N) : (ms0_3 t).IsWhole := hstage0_3 ((cfg0.slots t 3).cast nbuf0_3)
/-- Window 4's current staging memref at point `t`. -/
abbrev ms0_4 (t : Fin cfg0.N) : Memref sig .tc .vmem S1536x256 .fp8e4m3 := win0_4.stage (cfg0.slots t 4)
/-- Window 4's staging memref is a whole buffer. -/
abbrev hs0_4 (t : Fin cfg0.N) : (ms0_4 t).IsWhole := hstage0_4 ((cfg0.slots t 4).cast nbuf0_4)
/-- Window 5's current staging memref at point `t`. -/
abbrev ms0_5 (t : Fin cfg0.N) : Memref sig .tc .vmem S1536x32 .f32 := win0_5.stage (cfg0.slots t 5)
/-- Window 5's staging memref is a whole buffer. -/
abbrev hs0_5 (t : Fin cfg0.N) : (ms0_5 t).IsWhole := hstage0_5 ((cfg0.slots t 5).cast nbuf0_5)
/-- Window 6's current staging memref at point `t`. -/
abbrev ms0_6 (t : Fin cfg0.N) : Memref sig .tc .vmem S1536x3072 .fp8e4m3 := win0_6.stage (cfg0.slots t 6)
/-- Window 6's staging memref is a whole buffer. -/
abbrev hs0_6 (t : Fin cfg0.N) : (ms0_6 t).IsWhole := hstage0_6 ((cfg0.slots t 6).cast nbuf0_6)
/-- Window 7's current staging memref at point `t`. -/
abbrev ms0_7 (t : Fin cfg0.N) : Memref sig .tc .vmem S1536x24 .f32 := win0_7.stage (cfg0.slots t 7)
/-- Window 7's staging memref is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1536x3072 .bf16 := Memref.whole cc0_scratch0
/-- The scratch that holds the dequantised gate weight. -/
abbrev scM0_1 : Memref sig .tc .vmem S256x3072 .bf16 := Memref.whole cc0_scratch1
/-- The scratch that holds the dequantised up weight. -/
abbrev scM0_2 : Memref sig .tc .vmem S256x3072 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.FrameA.lean ====
/- The kernel body's run at the first grid point of `KernelIdeal`, as far as the frame claim
   needs it: the inputs' staging memrefs end as they were, and nothing is said of what the outputs and the scratch end with. -/
module

public import proofs.«01_k».proof.Proof.Point
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3280000 in
/-- The body's triple IN CASE A (`scf.if` 0 taken: points 0): on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S64x24 .f32) (harg1 : arg1.IsWhole) (arg2 : Memref sig .tc .vmem S1536x3072 .bf16) (harg2 : arg2.IsWhole) (arg3 : Memref sig .tc .vmem S256x3072 .fp8e4m3) (harg3 : arg3.IsWhole) (arg4 : Memref sig .tc .vmem S256x3072 .fp8e4m3) (harg4 : arg4.IsWhole) (arg5 : Memref sig .tc .vmem S1536x256 .fp8e4m3) (harg5 : arg5.IsWhole) (arg6 : Memref sig .tc .vmem S1536x32 .f32) (harg6 : arg6.IsWhole) (arg7 : Memref sig .tc .vmem S1536x3072 .fp8e4m3) (harg7 : arg7.IsWhole) (arg8 : Memref sig .tc .vmem S1536x24 .f32) (harg8 : arg8.IsWhole) (arg9 : Memref sig .tc .vmem S1536x3072 .bf16) (harg9 : arg9.IsWhole) (arg10 : Memref sig .tc .vmem S256x3072 .bf16) (harg10 : arg10.IsWhole) (arg11 : Memref sig .tc .vmem S256x3072 .bf16) (harg11 : arg11.IsWhole) (hc0 : cond0_0 i)
    (x0 : Vec F S64x24 .f32) (x1 : Vec F S1536x3072 .bf16) (x2 : Vec F S256x3072 .fp8e4m3) (x3 : Vec F S256x3072 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
    intro E K
    simp only [cc0__body_eq_skeleton]; unfold cc0__body_skel
    simp only [k0_part69_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Gen

end
-- ==== Proof.FrameB.lean ====
/- The kernel body's run at the grid points after the first of `KernelIdeal`, as far as the frame claim
   needs it: the inputs' staging memrefs end as they were, and nothing is said of what the outputs and the scratch end with. -/
module

public import proofs.«01_k».proof.Proof.FrameA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3208000 in
/-- The body's triple IN CASE B (`scf.if` 0 not taken: points 1, 2, … 15: 15 of 16): on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S64x24 .f32) (harg1 : arg1.IsWhole) (arg2 : Memref sig .tc .vmem S1536x3072 .bf16) (harg2 : arg2.IsWhole) (arg3 : Memref sig .tc .vmem S256x3072 .fp8e4m3) (harg3 : arg3.IsWhole) (arg4 : Memref sig .tc .vmem S256x3072 .fp8e4m3) (harg4 : arg4.IsWhole) (arg5 : Memref sig .tc .vmem S1536x256 .fp8e4m3) (harg5 : arg5.IsWhole) (arg6 : Memref sig .tc .vmem S1536x32 .f32) (harg6 : arg6.IsWhole) (arg7 : Memref sig .tc .vmem S1536x3072 .fp8e4m3) (harg7 : arg7.IsWhole) (arg8 : Memref sig .tc .vmem S1536x24 .f32) (harg8 : arg8.IsWhole) (arg9 : Memref sig .tc .vmem S1536x3072 .bf16) (harg9 : arg9.IsWhole) (arg10 : Memref sig .tc .vmem S256x3072 .bf16) (harg10 : arg10.IsWhole) (arg11 : Memref sig .tc .vmem S256x3072 .bf16) (harg11 : arg11.IsWhole) (hc0 : ¬cond0_0 i)
    (x0 : Vec F S64x24 .f32) (x1 : Vec F S1536x3072 .bf16) (x2 : Vec F S256x3072 .fp8e4m3) (x3 : Vec F S256x3072 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
    intro E K
    simp only [cc0__body_eq_skeleton]; unfold cc0__body_skel
    simp only [k0_part69_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Gen

end
-- ==== Proof.FrameI.lean ====
/- The frame claim of `KernelIdeal`: the pipeline's proof data with the outputs' contents left unstated, the body's obligation at
   every grid point (from the runs of the two cases), the run of the program, and `frame`: it ends, its arguments are as they
   were and every semaphore counter is at zero. -/
module

public import proofs.«01_k».proof.Proof.FrameB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows (4, 5, 6, 7) of which the frame claim says nothing (Lib/Pipeline/Dat.lean `Dat.toRForget`). -/
def forgets0 : Fin 8 → Bool := fun w => w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The same for window 1. -/
theorem after0_1 (c : Dev nD) (t : Fin cfg0.N) : (dats m 0 c).after 1 t = iblk m c 1 t := by dsimp only [dats]
/-- The same for window 2. -/
theorem after0_2 (c : Dev nD) (t : Fin cfg0.N) : (dats m 0 c).after 2 t = iblk m c 2 t := by dsimp only [dats]
/-- The same for window 3. -/
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The same for window 1. -/
theorem before0_1 (c : Dev nD) (t : Fin cfg0.N) (d) : (dats m 0 c).before 1 t d = iblk m c 1 t :=
  before0_1_of m (dats m 0 c) (A_eq m c 1) (after0_1 m c) t d
/-- The same for window 2. -/
theorem before0_2 (c : Dev nD) (t : Fin cfg0.N) (d) : (dats m 0 c).before 2 t d = iblk m c 2 t :=
  before0_2_of m (dats m 0 c) (A_eq m c 2) (after0_2 m c) t d
/-- The same for window 3. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val % 16 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofR m ρ (fun c => (dats m 0 c).toRForget forgets0) (A_eq m) (run_main m ρ)

/-- The frame claim at any carrier of floats: the program ends, its arguments are as they were, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Scale.lean ====
module

public import Idealize.ShloMosaic.Lib.Pointwise

@[expose] public section

set_option maxRecDepth 16384

/-! # The scale of a group

Two readings of one scale over the extended reals: the kernel's, which counts the powers of two that do not
exceed `y` and builds the scale and its inverse from that count by their bits, and the reference's, the least power
of two above `y` (one where `y` is below the least normal number or at least `2 ^ 126`) and its reciprocal. -/

noncomputable section

namespace Cert.Scale

open Idealize.ShloMosaic

/-- The number whose f32 word has the exponent field `k` and nothing else set. -/
def pow (k : ℕ) : EReal := Ideal.ofBits FTy.f32 (IntOp.shli ArithUnit.vector (BitVec.ofNat 32 k) 23#32)

/-- The word a lane stands for: its number, and 255 from 253 on. -/
def fieldWord (x : Fin 256) : BitVec 32 :=
  Scalar.select (IntOp.cmpi CmpIPredicate.sge (BitVec.ofNat 32 x.val) 253#32) 255#32 (BitVec.ofNat 32 x.val)

/-- The same as a number. -/
def field (k : ℕ) : ℕ := if 253 ≤ k then 255 else k

/-- The word of a lane is the word of its number. -/
theorem fieldWord_eq : ∀ x : Fin 256, fieldWord x = BitVec.ofNat 32 (field x.val) := by
  decide +kernel

/-- The word of the greatest `k < 256` with `pow k ≤ y`, as a signed maximum over the 256 lanes leaves it. -/
def topWord (y : EReal) : BitVec 32 :=
  Finset.fold IntOp.maxsi (2147483648#32)
    (fun x : Fin 256 =>
      if Ideal.ofBits FTy.f32 (IntOp.shli ArithUnit.vector (BitVec.ofNat 32 x.val) 23#32) ≤ y then fieldWord x else 0#32)
    Finset.univ

/-- The kernel's exponent word: `topWord`, with 126 in the place of the exponents that give no normal scale. -/
def expWord (y : EReal) : BitVec 32 :=
  Scalar.select (IntOp.ori (IntOp.cmpi CmpIPredicate.eq (topWord y) 0#32) (IntOp.cmpi CmpIPredicate.eq (topWord y) 255#32))
    126#32 (topWord y)

/-- The kernel's scale of a group whose greatest magnitude times the constant `1/448` is `y`. -/
def scaleK (y : EReal) : EReal := Ideal.ofBits FTy.f32 (IntOp.shli ArithUnit.vector (IntOp.addi (expWord y) 1#32) 23#32)

/-- The kernel's inverse scale. -/
def invK (y : EReal) : EReal := Ideal.ofBits FTy.f32 (IntOp.shli ArithUnit.vector (IntOp.subi 253#32 (expWord y)) 23#32)

/-- Each word with exponent field `k < 256` and no fraction: its sign, exponent and fraction fields. -/
theorem fields : ∀ k : Fin 256,
    (IntOp.shli ArithUnit.vector (BitVec.ofNat 32 k.val) 23#32).extractLsb' 31 1 = 0#1
    ∧ ((IntOp.shli ArithUnit.vector (BitVec.ofNat 32 k.val) 23#32).extractLsb' 23 8).toNat = k.val
    ∧ ((IntOp.shli ArithUnit.vector (BitVec.ofNat 32 k.val) 23#32).extractLsb' 0 23).toNat = 0 := by
  decide +kernel

/-- `pow k` is `2 ^ (k - 127)` for the exponents of normal numbers. -/
theorem pow_eq (k : ℕ) (h1 : 1 ≤ k) (h2 : k ≤ 254) : pow k = (((2 : ℝ) ^ ((k : ℤ) - 127) : ℝ) : EReal) := by
  obtain ⟨f0, f1, f2⟩ := fields ⟨k, by omega⟩
  simp only at f0 f1 f2
  have e : (2 : ℝ) ^ (23 : ℕ) * (2 : ℝ) ^ ((k : ℤ) - 127 - 23) = (2 : ℝ) ^ ((k : ℤ) - 127) := by
    have h : (k : ℤ) - 127 = ((23 : ℕ) : ℤ) + ((k : ℤ) - 127 - 23) := by push_cast; ring
    rw [← zpow_natCast, ← zpow_add₀ (two_ne_zero), ← h]
  have h3 : ¬ (k = 2 ^ 8 - 1) := by omega
  have h4 : ¬ (k = 0) := by omega
  show Ideal.ieee 8 23 _ = _
  unfold Ideal.ieee
  dsimp only
  rw [f0, f1, f2, if_neg h3, if_neg h4, ← e]
  have e1 : ((8 : ℕ) : ℤ) = 8 := rfl
  simp only [Nat.add_zero, Nat.cast_pow, Nat.cast_ofNat]
  norm_num

/-- `pow 255` is the infinity. -/
theorem pow_255 : pow 255 = ⊤ := by
  obtain ⟨f0, f1, f2⟩ := fields ⟨255, by omega⟩
  simp only at f0 f1 f2
  unfold pow
  simp only [Ideal.ofBits, Ideal.ieee, Nat.reduceAdd, f0, f1, f2]
  norm_num

/-- `pow` strictly increases over the normal exponents. -/
theorem pow_lt (i j : ℕ) (h1 : 1 ≤ i) (h : i < j) (h2 : j ≤ 254) : pow i < pow j := by
  rw [pow_eq i h1 (by omega), pow_eq j (by omega) h2, EReal.coe_lt_coe_iff]
  exact zpow_lt_zpow_right₀ (by norm_num) (by omega)

/-- `pow` increases over the exponents from 1 on. -/
theorem pow_le (i j : ℕ) (h1 : 1 ≤ i) (h : i ≤ j) (h2 : j ≤ 255) : pow i ≤ pow j := by
  rcases Nat.lt_or_ge j 255 with hj | hj
  · rcases Nat.lt_or_ge i j with hij | hij
    · exact (pow_lt i j h1 hij (by omega)).le
    · have : i = j := by omega
      subst this; exact le_rfl
  · have : j = 255 := by omega
    subst this; rw [pow_255]; exact le_top

/-- A signed maximum of words is the maximum of their integers. -/
theorem toInt_maxsi (a b : BitVec 32) : (IntOp.maxsi a b).toInt = max a.toInt b.toInt := by
  unfold IntOp.maxsi
  rcases lt_or_ge b.toInt a.toInt with h | h
  · rw [if_pos (by simpa [BitVec.slt] using h), max_eq_left h.le]
  · rw [if_neg (by simpa [BitVec.slt] using h), max_eq_right h]

/-- The integer of a lane's word is its number. -/
theorem toInt_field (k : ℕ) (h : k ≤ 255) : (BitVec.ofNat 32 (field k)).toInt = (field k : ℤ) := by
  have hf : field k ≤ 255 := by unfold field; split <;> omega
  rw [BitVec.toInt_ofNat']; norm_num; rw [Int.bmod_def]; split <;> omega

/-- The integer of `topWord` as a maximum of integers. -/
theorem toInt_topWord (y : EReal) : (topWord y).toInt
    = Finset.fold max (-2147483648 : ℤ) (fun x : Fin 256 => if pow x.val ≤ y then (field x.val : ℤ) else 0) Finset.univ := by
  unfold topWord
  rw [← Finset.fold_hom (op := IntOp.maxsi) (op' := max) (m := BitVec.toInt) toInt_maxsi]
  refine congrArg₂ (fun b f => Finset.fold max b f Finset.univ) (by decide) (funext fun x => ?_)
  show BitVec.toInt (if pow x.val ≤ y then _ else _) = _
  split
  · rw [fieldWord_eq, toInt_field _ (by have := x.isLt; omega)]
  · rfl

/-- The kernel's exponent word, where the greatest `k` with `pow k ≤ y` is known. -/
theorem topWord_eq (y : EReal) (K : ℕ) (hK : K ≤ 255) (hle : K = 0 ∨ pow K ≤ y)
    (hgt : ∀ k : ℕ, K < k → k ≤ 255 → ¬ pow k ≤ y) : topWord y = BitVec.ofNat 32 (field K) := by
  apply BitVec.eq_of_toInt_eq
  rw [toInt_topWord, toInt_field K hK]
  apply le_antisymm
  · rw [Finset.fold_max_le]
    refine ⟨by omega, fun x _ => ?_⟩
    split
    · rename_i h
      by_contra hc
      have hx := x.isLt
      refine hgt x.val ?_ (by omega) h
      by_contra hk
      unfold field at hc
      split at hc <;> split at hc <;> omega
    · omega
  · rw [Finset.le_fold_max]
    refine Or.inr ⟨⟨K, by omega⟩, Finset.mem_univ _, ?_⟩
    split
    · exact le_rfl
    · rename_i h
      rcases hle with h0 | h0
      · simp [h0, field]
      · exact absurd h0 h

/-- The reference's scale: the least power of two above `y`, and one outside the range of normal scales. -/
def scaleR (y : EReal) : EReal :=
  Scalar.select
    (IntOp.andi (BitVec.ofBool (decide (Ideal.ofBits FTy.f32 8388608#32 ≤ y)))
      (BitVec.ofBool (decide (y < Ideal.ofBits FTy.f32 2122317824#32))))
    (Finset.fold min (Ideal.ofBits FTy.f32 2139095040#32)
      (fun x : Fin 253 =>
        if y < FloatOps.exp2 (F := Ideal) (φ := .f32) (FloatOps.sitofp FTy.f32 (IntOp.subi (BitVec.ofNat 32 x.val) 125#32)) then
          FloatOps.exp2 (F := Ideal) (φ := .f32) (FloatOps.sitofp FTy.f32 (IntOp.subi (BitVec.ofNat 32 x.val) 125#32))
        else Ideal.ofBits FTy.f32 2139095040#32)
      Finset.univ)
    (1 : EReal)

/-- The `x`-th power of two the reference tries is `pow (x + 2)`. -/
theorem exp2_eq (x : Fin 253) :
    FloatOps.exp2 (F := Ideal) (φ := .f32) (FloatOps.sitofp FTy.f32 (IntOp.subi (BitVec.ofNat 32 x.val) 125#32)) = pow (x.val + 2) := by
  have hx := x.isLt
  have hv : (IntOp.subi (BitVec.ofNat 32 x.val) 125#32).toInt = (x.val : ℤ) - 125 := by
    unfold IntOp.subi
    have h : ∀ x : Fin 253, (BitVec.ofNat 32 x.val - 125#32).toInt = (x.val : ℤ) - 125 := by decide +kernel
    exact h x
  rw [pow_eq _ (by omega) (by omega)]
  show Ideal.exp2 (((IntOp.subi (BitVec.ofNat 32 x.val) 125#32).toInt : ℝ) : EReal) = _
  rw [hv]
  show ((Real.rpow 2 _ : ℝ) : EReal) = _
  congr 1
  have h : ((x.val + 2 : ℕ) : ℤ) - 127 = (x.val : ℤ) - 125 := by push_cast; ring
  rw [h]
  exact Real.rpow_intCast 2 _

/-- The word of the least normal number is `pow 1`. -/
theorem const_1 : Ideal.ofBits FTy.f32 8388608#32 = pow 1 := rfl
/-- The word of two to the 126 is `pow 253`. -/
theorem const_253 : Ideal.ofBits FTy.f32 2122317824#32 = pow 253 := rfl
/-- The word of infinity is the top. -/
theorem const_255 : Ideal.ofBits FTy.f32 2139095040#32 = (⊤ : EReal) := pow_255

/-- `pow 127` is one. -/
theorem pow_127 : pow 127 = 1 := by
  rw [pow_eq 127 (by omega) (by omega)]; norm_num

/-- The reference's scale between consecutive powers of two is the upper one. -/
theorem scaleR_eq (y : EReal) (K : ℕ) (h1 : 1 ≤ K) (h2 : K ≤ 252) (hle : pow K ≤ y) (hlt : y < pow (K + 1)) :
    scaleR y = pow (K + 1) := by
  unfold scaleR
  rw [const_1, const_253, const_255,
    decide_eq_true ((pow_le 1 K le_rfl h1 (by omega)).trans hle),
    decide_eq_true (hlt.trans_le (pow_le (K + 1) 253 (by omega) (by omega) (by omega)))]
  have e : IntOp.andi (BitVec.ofBool true) (BitVec.ofBool true) = 1#1 := by decide
  rw [e]
  refine (show Scalar.select 1#1 _ _ = _ from if_pos rfl).trans ?_
  apply le_antisymm
  · rw [Finset.fold_min_le]
    refine Or.inr ⟨⟨K - 1, by omega⟩, Finset.mem_univ _, ?_⟩
    have e : K - 1 + 2 = K + 1 := by omega
    rw [exp2_eq]
    simp only [e]
    rw [if_pos hlt]
  · rw [Finset.le_fold_min]
    refine ⟨le_top, fun x _ => ?_⟩
    rw [exp2_eq]
    split
    · rename_i h
      apply pow_le _ _ (by omega) _ (by have := x.isLt; omega)
      by_contra hc
      exact absurd ((pow_le (x.val + 2) K (by omega) (by omega) (by omega)).trans hle) (not_le.mpr h)
    · exact le_top

/-- The reference's scale below the least normal number is one. -/
theorem scaleR_low (y : EReal) (h : y < pow 1) : scaleR y = 1 := by
  unfold scaleR
  rw [const_1, decide_eq_false (not_le.mpr h)]
  have e : ∀ b : Bool, IntOp.andi (BitVec.ofBool false) (BitVec.ofBool b) = 0#1 := by decide
  rw [e]; rfl

/-- The reference's scale from `2 ^ 126` on is one. -/
theorem scaleR_high (y : EReal) (h : pow 253 ≤ y) : scaleR y = 1 := by
  unfold scaleR
  rw [const_253, decide_eq_false (not_lt.mpr h)]
  have e : ∀ b : Bool, IntOp.andi (BitVec.ofBool b) (BitVec.ofBool false) = 0#1 := by decide
  rw [e]; rfl

/-- The kernel's exponent word from the greatest exponent, by cases of its range. -/
theorem expWord_sel : ∀ K : Fin 256,
    Scalar.select (IntOp.ori (IntOp.cmpi CmpIPredicate.eq (BitVec.ofNat 32 (field K.val)) 0#32)
      (IntOp.cmpi CmpIPredicate.eq (BitVec.ofNat 32 (field K.val)) 255#32)) 126#32 (BitVec.ofNat 32 (field K.val))
    = BitVec.ofNat 32 (if K.val = 0 ∨ 253 ≤ K.val then 126 else K.val) := by
  decide +kernel

/-- Scale and inverse scale of the kernel from its exponent word. -/
theorem scaleK_of (y : EReal) (E : ℕ) (h1 : 1 ≤ E) (h2 : E ≤ 252) (h : expWord y = BitVec.ofNat 32 E) :
    scaleK y = pow (E + 1) ∧ invK y = pow (253 - E) := by
  unfold scaleK invK
  rw [h]
  constructor
  · unfold pow IntOp.addi
    rw [← BitVec.ofNat_add]
  · unfold pow IntOp.subi
    have : (253#32 - BitVec.ofNat 32 E) = BitVec.ofNat 32 (253 - E) := by
      apply BitVec.eq_of_toNat_eq
      rw [BitVec.toNat_sub, BitVec.toNat_ofNat, BitVec.toNat_ofNat, BitVec.toNat_ofNat]
      omega
    rw [this]

/-- The reciprocal of a normal power of two that has a normal reciprocal. -/
theorem div_pow (k : ℕ) (h1 : 1 ≤ k) (h2 : k ≤ 253) : Ideal.div 1 (pow k) = pow (254 - k) := by
  rw [pow_eq k h1 (by omega), pow_eq (254 - k) (by omega) (by omega)]
  have hp : (0 : ℝ) < (2 : ℝ) ^ ((k : ℤ) - 127) := by positivity
  unfold Ideal.div
  rw [if_neg (by exact_mod_cast hp.ne'), one_mul, ← EReal.coe_inv, ← zpow_neg]
  congr 2
  omega

/-- THE TWO SCALES ARE ONE: for every extended real `y`, the kernel's scale is the reference's and the kernel's inverse
    scale is its reciprocal. -/
theorem scale_eq (y : EReal) : scaleK y = scaleR y ∧ invK y = Ideal.div 1 (scaleR y) := by
  have h1div : Ideal.div 1 1 = (1 : EReal) := by
    have := div_pow 127 (by omega) (by omega)
    rwa [show 254 - 127 = 127 from rfl, pow_127] at this
  have one (K : ℕ) (hK : K ≤ 255) (hc : K = 0 ∨ 253 ≤ K) (ht : topWord y = BitVec.ofNat 32 (field K)) :
      scaleK y = 1 ∧ invK y = 1 := by
    have he : expWord y = BitVec.ofNat 32 126 := by
      unfold expWord; rw [ht]
      have := expWord_sel ⟨K, by omega⟩
      simp only at this
      rw [this, if_pos hc]
    obtain ⟨a, b⟩ := scaleK_of y 126 (by omega) (by omega) he
    exact ⟨a.trans pow_127, b.trans pow_127⟩
  rcases lt_or_ge y (pow 1) with hy | hy
  · obtain ⟨a, b⟩ := one 0 (by omega) (Or.inl rfl) (topWord_eq y 0 (by omega) (Or.inl rfl)
      fun k h h' hk => absurd ((pow_le 1 k le_rfl h h').trans hk) (not_le.mpr hy))
    rw [scaleR_low y hy, h1div]; exact ⟨a, b⟩
  rcases lt_or_ge y (pow 253) with hz | hz
  · have hex : ∃ n, 1 ≤ n ∧ n ≤ 253 ∧ y < pow n := ⟨253, by omega, le_rfl, hz⟩
    classical
    obtain ⟨hn1, hn2, hn3⟩ := Nat.find_spec hex
    set n := Nat.find hex with hn
    have hmin : ∀ k, 1 ≤ k → k < n → pow k ≤ y := fun k hk hkn => by
      have := Nat.find_min hex hkn
      by_contra hc
      exact this ⟨hk, by omega, not_le.mp hc⟩
    have hn0 : 2 ≤ n := by
      by_contra hc
      have : n = 1 := by omega
      rw [this] at hn3
      exact absurd hy (not_le.mpr hn3)
    have hle : pow (n - 1) ≤ y := hmin (n - 1) (by omega) (by omega)
    have e : n - 1 + 1 = n := by omega
    have ht := topWord_eq y (n - 1) (by omega) (Or.inr hle)
      fun k h h' hk => absurd ((pow_le n k (by omega) (by omega) h').trans hk) (not_le.mpr hn3)
    have he : expWord y = BitVec.ofNat 32 (n - 1) := by
      unfold expWord; rw [ht]
      have := expWord_sel ⟨n - 1, by omega⟩
      simp only at this
      rw [this, if_neg (by omega)]
    obtain ⟨a, b⟩ := scaleK_of y (n - 1) (by omega) (by omega) he
    rw [scaleR_eq y (n - 1) (by omega) (by omega) hle (by rw [e]; exact hn3), e]
    rw [e] at a
    refine ⟨a, ?_⟩
    rw [b, div_pow n (by omega) (by omega)]
    congr 1; omega
  · have hex : ∃ K, 253 ≤ K ∧ K ≤ 255 ∧ pow K ≤ y ∧ ∀ k : ℕ, K < k → k ≤ 255 → ¬ pow k ≤ y := by
      by_cases h5 : pow 255 ≤ y
      · exact ⟨255, by omega, le_rfl, h5, fun k h h' => by omega⟩
      by_cases h4 : pow 254 ≤ y
      · refine ⟨254, by omega, by omega, h4, fun k h h' => ?_⟩
        have : k = 255 := by omega
        rw [this]; exact h5
      · refine ⟨253, by omega, by omega, hz, fun k h h' => ?_⟩
        rcases (by omega : k = 254 ∨ k = 255) with rfl | rfl
        · exact h4
        · exact h5
    obtain ⟨K, k1, k2, k3, k4⟩ := hex
    obtain ⟨a, b⟩ := one K k2 (Or.inr k1) (topWord_eq y K k2 (Or.inr k3) k4)
    rw [scaleR_high y hz, h1div]; exact ⟨a, b⟩

end Cert.Scale
end
-- ==== Proof.Values.lean ====
module

public import proofs.«01_k».proof.Proof.Scale

@[expose] public section

set_option maxRecDepth 16384

noncomputable section

/-! The mathematics both programs compute, written over coordinates: `X` the activation rows, `W` the weight codes and `S`
their block scales. Both programs are shown to leave these functions in their result arrays. -/

namespace Cert.Val

open Idealize.ShloMosaic Cert.Scale

/-- The greatest magnitude of a group of 128 values, divided by 448. -/
def yOf (f : Fin 128 → EReal) : EReal :=
  Finset.fold max (Ideal.ofBits FTy.f32 4286578688#32) (fun k => FloatOps.absf (F := Ideal) (φ := .f32) (f k)) Finset.univ
    * Ideal.ofBits FTy.f32 991054117#32

/-- A value clipped to the range of the codes, from -448 to 448. -/
def clip (v : EReal) : EReal :=
  min (Ideal.ofBits FTy.f32 1138753536#32) (max (Ideal.ofBits FTy.f32 3286237184#32) v)

/-- Column `k` of group `g` of an activation row. -/
abbrev col (g : Fin 24) (k : Fin 128) : Fin 3072 := ⟨g.val * 128 + k.val, by omega⟩

/-- Output `k` of group `g` of the hidden row. -/
abbrev colH (g : Fin 32) (k : Fin 128) : Fin 4096 := ⟨g.val * 128 + k.val, by omega⟩

/-- The group of a column of the activations. -/
abbrev grp (d : Fin 3072) : Fin 24 := ⟨d.val / 128, by omega⟩

/-- The group of an output of the hidden layer. -/
abbrev grpH (n : Fin 4096) : Fin 32 := ⟨n.val / 128, by omega⟩

variable (X : Fin 1536 → Fin 3072 → EReal) (W : Fin 8192 → Fin 3072 → EReal) (S : Fin 64 → Fin 24 → EReal)

/-- A 448th of the greatest magnitude in group `g` of row `r` of the activations. -/
def xY (r : Fin 1536) (g : Fin 24) : EReal := yOf fun k => X r (col g k)

/-- The scale of group `g` of row `r` of the activations. -/
def xS (r : Fin 1536) (g : Fin 24) : EReal := scaleK (xY X r g)

/-- The code of the activation at row `r`, column `d`. -/
def xC (r : Fin 1536) (d : Fin 3072) : EReal := clip (X r d * invK (xY X r (grp d)))

/-- The quantised activation: its code times its group's scale. -/
def xQ (r : Fin 1536) (d : Fin 3072) : EReal := xC X r d * xS X r (grp d)

/-- The weight: its code times the scale of its 128 by 128 block. -/
def wQ (n : Fin 8192) (d : Fin 3072) : EReal := W n d * S ⟨n.val / 128, by omega⟩ (grp d)

/-- The product of row `r` of the quantised activations and row `n` of the weights. -/
def dot (r : Fin 1536) (n : Fin 8192) : EReal := ∑ d : Fin 3072, xQ X r d * wQ W S n d

/-- The hidden value: gate times its logistic times up, the up weights standing 4096 rows below the gate weights. -/
def hid (r : Fin 1536) (n : Fin 4096) : EReal :=
  dot X W S r ⟨n.val, by omega⟩ * Ideal.logistic (dot X W S r ⟨n.val, by omega⟩) * dot X W S r ⟨4096 + n.val, by omega⟩

/-- A 448th of the greatest magnitude in group `g` of row `r` of the hidden values. -/
def hY (r : Fin 1536) (g : Fin 32) : EReal := yOf fun k => hid X W S r (colH g k)

/-- The scale of group `g` of row `r` of the hidden values. -/
def hS (r : Fin 1536) (g : Fin 32) : EReal := scaleK (hY X W S r g)

/-- The code of the hidden value at row `r`, output `n`. -/
def hC (r : Fin 1536) (n : Fin 4096) : EReal := clip (hid X W S r n * invK (hY X W S r (grpH n)))

/-- Column `k` of group `g` lies in group `g`. -/
theorem grp_col (g : Fin 24) (k : Fin 128) : grp (col g k) = g := Fin.ext (by show (g.val * 128 + k.val) / 128 = g.val; omega)

/-- Output `k` of group `g` lies in group `g`. -/
theorem grpH_col (g : Fin 32) (k : Fin 128) : grpH (colH g k) = g := Fin.ext (by show (g.val * 128 + k.val) / 128 = g.val; omega)

end Cert.Val
end
-- ==== Proof.Quant.lean ====
module

public import proofs.«01_k».proof.Proof.Values
public import proofs.«01_k».proof.Proof.Gen.KernelIdeal.Skeleton
public import Idealize.ShloMosaic.Lib.Pointwise

@[expose] public section

set_option maxRecDepth 16384

noncomputable section

/-! The kernel's quantiser over one block of rows, as three functions of a block (exponent words, scales, codes), and what
each computes row by row. -/

namespace Cert.KernelIdeal.Gen

open Idealize.ShloMosaic Idealize.ShloMosaic.TcCoe
open Cert.Scale Cert.Val

variable {F : FTy → Type} [FloatOps F]

/-- The exponent words of 512 rows, from the magnitudes of the 128 values of each row. -/
def expo512 (A : FVec F S512x128 .f32) : IVec S512x1 32 :=
  have m : FVec F S512 .f32 := multiReduction .maximumf [1] S512 A 0xFF800000#32 reduces_S512x128_S512 (.inl rfl) rfl
  have m1 : FVec F S512x1 .f32 := shapeCast S512x1 m shapeCasts_S512_S512x1
  have y : FVec F S512x1 .f32 := mulf m1 (broadcast S512x1 (Scalar.ofBits .f32 0x3B124925#32))
  have k : IVec S512x256 32 := iota .tc S512x256 32 [1] iota_S512x256_d1_w32
  have f : IVec S512x256 32 := select (cmpi .sge k (broadcast S512x256 253#32)) (broadcast S512x256 255#32) k
  have p : FVec F S512x256 .f32 := bitcastToFloat .f32 (shli k (broadcast S512x256 23#32))
  have c : IVec S512x256 1 := cmpf .oge (broadcastTo S512x256 y broadcasts_S512x1_S512x256) p
  have t : IVec S512 32 := multiReductionI .maxsi [1] S512 (select c f (broadcast S512x256 0#32)) 2147483648#32 reduces_S512x256_S512 rfl
  have t1 : IVec S512x1 32 := shapeCast S512x1 t shapeCasts_S512_S512x1
  select (ori (cmpi .eq t1 (broadcast S512x1 0#32)) (cmpi .eq t1 (broadcast S512x1 255#32))) (broadcast S512x1 126#32) t1

/-- The scales of 512 rows, from their exponent words. -/
def scale512 (e : IVec S512x1 32) : FVec F S512x1 .f32 :=
  bitcastToFloat .f32 (shli (addi e (broadcast S512x1 1#32)) (broadcast S512x1 23#32))

/-- The codes of 512 rows, from their values and their exponent words. -/
def codes512 (g : FVec F S512x128 .f32) (e : IVec S512x1 32) : FVec F S512x128 .fp8e4m3 :=
  have i : FVec F S512x1 .f32 := bitcastToFloat .f32 (shli (subi (broadcast S512x1 253#32) e) (broadcast S512x1 23#32))
  have v : FVec F S512x128 .f32 := mulf g (broadcastTo S512x128 i broadcasts_S512x1_S512x128)
  truncf .fp8e4m3 (minimumf (broadcast S512x128 (Scalar.ofBits .f32 0x43E00000#32))
    (maximumf (broadcast S512x128 (Scalar.ofBits .f32 0xC3E00000#32)) v)) bitsLt_fp8e4m3_f32

/-- The exponent word of a row is `expWord` of a 448th of its greatest magnitude. -/
theorem expo512_apply (A : FVec Ideal S512x128 .f32) (r : Fin 512) :
    expo512 A (ix2 r 0) = expWord (Finset.fold max (Ideal.ofBits FTy.f32 4286578688#32) (fun k : Fin 128 => A (ix2 r k)) Finset.univ
      * Ideal.ofBits FTy.f32 991054117#32) := by
  pointwise [expo512]
  rfl

/-- The scale of a row, from its exponent word. -/
theorem scale512_apply (e : IVec S512x1 32) (r : Fin 512) :
    scale512 (F := Ideal) e (ix2 r 0) = Ideal.ofBits FTy.f32 (IntOp.shli ArithUnit.vector (IntOp.addi (e (ix2 r 0)) 1#32) 23#32) := by
  pointwise [scale512]

/-- The code of a value is its product with the inverse scale of its row, clipped. -/
theorem codes512_apply (g : FVec Ideal S512x128 .f32) (e : IVec S512x1 32) (r : Fin 512) (l : Fin 128) :
    codes512 g e (ix2 r l) = clip (g (ix2 r l)
      * Ideal.ofBits FTy.f32 (IntOp.shli ArithUnit.vector (IntOp.subi 253#32 (e (ix2 r 0))) 23#32)) := by
  pointwise [codes512]
  rfl

/-- The exponent words of 128 rows, from the magnitudes of the 128 values of each row. -/
def expo128 (A : FVec F S128x128 .f32) : IVec S128x1 32 :=
  have m : FVec F S128 .f32 := multiReduction .maximumf [1] S128 A 0xFF800000#32 reduces_S128x128_S128 (.inl rfl) rfl
  have m1 : FVec F S128x1 .f32 := shapeCast S128x1 m shapeCasts_S128_S128x1
  have y : FVec F S128x1 .f32 := mulf m1 (broadcast S128x1 (Scalar.ofBits .f32 0x3B124925#32))
  have k : IVec S128x256 32 := iota .tc S128x256 32 [1] iota_S128x256_d1_w32
  have f : IVec S128x256 32 := select (cmpi .sge k (broadcast S128x256 253#32)) (broadcast S128x256 255#32) k
  have p : FVec F S128x256 .f32 := bitcastToFloat .f32 (shli k (broadcast S128x256 23#32))
  have c : IVec S128x256 1 := cmpf .oge (broadcastTo S128x256 y broadcasts_S128x1_S128x256) p
  have t : IVec S128 32 := multiReductionI .maxsi [1] S128 (select c f (broadcast S128x256 0#32)) 2147483648#32 reduces_S128x256_S128 rfl
  have t1 : IVec S128x1 32 := shapeCast S128x1 t shapeCasts_S128_S128x1
  select (ori (cmpi .eq t1 (broadcast S128x1 0#32)) (cmpi .eq t1 (broadcast S128x1 255#32))) (broadcast S128x1 126#32) t1

/-- The scales of 128 rows, from their exponent words. -/
def scale128 (e : IVec S128x1 32) : FVec F S128x1 .f32 :=
  bitcastToFloat .f32 (shli (addi e (broadcast S128x1 1#32)) (broadcast S128x1 23#32))

/-- The codes of 128 rows, from their values and their exponent words. -/
def codes128 (g : FVec F S128x128 .f32) (e : IVec S128x1 32) : FVec F S128x128 .fp8e4m3 :=
  have i : FVec F S128x1 .f32 := bitcastToFloat .f32 (shli (subi (broadcast S128x1 253#32) e) (broadcast S128x1 23#32))
  have v : FVec F S128x128 .f32 := mulf g (broadcastTo S128x128 i broadcasts_S128x1_S128x128)
  truncf .fp8e4m3 (minimumf (broadcast S128x128 (Scalar.ofBits .f32 0x43E00000#32))
    (maximumf (broadcast S128x128 (Scalar.ofBits .f32 0xC3E00000#32)) v)) bitsLt_fp8e4m3_f32

/-- The exponent word of a row is `expWord` of a 448th of its greatest magnitude. -/
theorem expo128_apply (A : FVec Ideal S128x128 .f32) (r : Fin 128) :
    expo128 A (ix2 r 0) = expWord (Finset.fold max (Ideal.ofBits FTy.f32 4286578688#32) (fun k : Fin 128 => A (ix2 r k)) Finset.univ
      * Ideal.ofBits FTy.f32 991054117#32) := by
  pointwise [expo128]
  rfl

/-- The scale of a row, from its exponent word. -/
theorem scale128_apply (e : IVec S128x1 32) (r : Fin 128) :
    scale128 (F := Ideal) e (ix2 r 0) = Ideal.ofBits FTy.f32 (IntOp.shli ArithUnit.vector (IntOp.addi (e (ix2 r 0)) 1#32) 23#32) := by
  pointwise [scale128]

/-- The code of a value is its product with the inverse scale of its row, clipped. -/
theorem codes128_apply (g : FVec Ideal S128x128 .f32) (e : IVec S128x1 32) (r : Fin 128) (l : Fin 128) :
    codes128 g e (ix2 r l) = clip (g (ix2 r l)
      * Ideal.ofBits FTy.f32 (IntOp.shli ArithUnit.vector (IntOp.subi 253#32 (e (ix2 r 0))) 23#32)) := by
  pointwise [codes128]
  rfl

/-- The hidden block of 512 rows and 256 outputs. -/
def tile (q : Vec F S512x3072 .bf16) (wg wu : Vec F S256x3072 .bf16) : FVec F S512x256 .f32 := k0_pay302 q wg wu

/-- The hidden value at one row and output: gate times its logistic times up. -/
theorem tile_apply (X : Vec Ideal S512x3072 .bf16) (A B : Vec Ideal S256x3072 .bf16) (r : Fin 512) (l : Fin 256) :
    tile X A B (ix2 r l) = (∑ x : Fin 3072, X (ix2 r x) * A (ix2 l x)) * Ideal.logistic (∑ x : Fin 3072, X (ix2 r x) * A (ix2 l x))
      * ∑ x : Fin 3072, X (ix2 r x) * B (ix2 l x) := by
  pointwise [tile, k0_pay302]

/-- The first and the second 128 outputs of a hidden block. -/
def left (h : FVec F S512x256 .f32) : FVec F S512x128 .f32 := extractStridedSlice S512x128 ![0, 0] h slices_S512x256_o0_0_S512x128
/-- The second 128 outputs of a hidden block. -/
def right (h : FVec F S512x256 .f32) : FVec F S512x128 .f32 := extractStridedSlice S512x128 ![0, 128] h slices_S512x256_o0_128_S512x128

/-- The first half's output `l` is the block's output `l`. -/
theorem left_apply (h : FVec Ideal S512x256 .f32) (r : Fin 512) (l : Fin 128) : left h (ix2 r l) = h (ix2 r ⟨l.val, by omega⟩) := by
  pointwise [left]

/-- The second half's output `l` is the block's output `128 + l`. -/
theorem right_apply (h : FVec Ideal S512x256 .f32) (r : Fin 512) (l : Fin 128) : right h (ix2 r l) = h (ix2 r ⟨128 + l.val, by omega⟩) := by
  pointwise [right]

/-- A column of scales written into lane `w` of 32, the other lanes kept. -/
def lane (w : BitVec 32) (i : IVec S512x32 32) (prev : FVec F S512x32 .f32) (s : FVec F S512x1 .f32) : FVec F S512x32 .f32 :=
  select (cmpi .eq i (broadcast S512x32 w)) (broadcastTo S512x32 (shapeCast S512x1 s shapeCasts_S512x1_S512x1) broadcasts_S512x1_S512x32) prev

/-- The lane numbers. -/
def lanes : IVec S512x32 32 := iota .tc S512x32 32 [1] iota_S512x32_d1_w32

/-- After the lane write, lane `l` holds the scale of its row when `l` is the written lane, else what was there. -/
theorem lane_apply (w : BitVec 32) (prev : FVec Ideal S512x32 .f32) (s : FVec Ideal S512x1 .f32) (r : Fin 512) (l : Fin 32) :
    lane w lanes prev s (ix2 r l) = if BitVec.ofNat 32 l.val = w then s (ix2 r 0) else prev (ix2 r l) := by
  pointwise [lane, lanes]
  by_cases h : BitVec.ofNat 32 l.val = w
  · rw [if_pos h, h]
    exact if_pos (by simp [IntOp.cmpi])
  · rw [if_neg h]
    refine if_neg ?_
    show ¬ BitVec.ofBool (BitVec.ofNat 32 l.val == w) = 1#1
    rw [beq_eq_false_iff_ne.mpr h]
    decide

end Cert.KernelIdeal.Gen
end
-- ==== Proof.RunA.lean ====
module

public import proofs.«01_k».proof.Proof.Point
public import proofs.«01_k».proof.Proof.Gen.KernelIdeal.Loops

@[expose] public section

-- membership in a rectangle of production extents (`View.cover_of_tiled`): the elaborator's structural look
-- recurses once per coordinate of the long axes
set_option maxRecDepth 16384

noncomputable section

/-! The run of the body of `KernelIdeal` at the first grid point, with every store kept as a piece. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3280000 in
/-- The body's run at the first grid point: from the eleven operands at the contents `f·`, the body ends with the operands it
    stores into at the pieces listed (last store first) over those contents, and the others as they were. -/
@[irreducible] def runA (c : Dev nD) (i : grid0.Coords) (arg1 : Memref sig .tc .smem S64x24 .f32) (harg1 : arg1.IsWhole) (arg2 : Memref sig .tc .vmem S1536x3072 .bf16) (harg2 : arg2.IsWhole) (arg3 : Memref sig .tc .vmem S256x3072 .fp8e4m3) (harg3 : arg3.IsWhole) (arg4 : Memref sig .tc .vmem S256x3072 .fp8e4m3) (harg4 : arg4.IsWhole) (arg5 : Memref sig .tc .vmem S1536x256 .fp8e4m3) (harg5 : arg5.IsWhole) (arg6 : Memref sig .tc .vmem S1536x32 .f32) (harg6 : arg6.IsWhole) (arg7 : Memref sig .tc .vmem S1536x3072 .fp8e4m3) (harg7 : arg7.IsWhole) (arg8 : Memref sig .tc .vmem S1536x24 .f32) (harg8 : arg8.IsWhole) (arg9 : Memref sig .tc .vmem S1536x3072 .bf16) (harg9 : arg9.IsWhole) (arg10 : Memref sig .tc .vmem S256x3072 .bf16) (harg10 : arg10.IsWhole) (arg11 : Memref sig .tc .vmem S256x3072 .bf16) (harg11 : arg11.IsWhole) (hc0 : cond0_0 i)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (L5 : List (View.Piece (Elt F) S1536x256 .fp8e4m3)) (L6 : List (View.Piece (Elt F) S1536x32 .f32)) (L7 : List (View.Piece (Elt F) S1536x3072 .fp8e4m3)) (L8 : List (View.Piece (Elt F) S1536x24 .f32)) (L9 : List (View.Piece (Elt F) S1536x3072 .bf16)) (L10 : List (View.Piece (Elt F) S256x3072 .bf16)), { L11 : List (View.Piece (Elt F) S256x3072 .bf16) //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} (arg5.view.writes (Elt F) f5 L5)) ∗ (arg6.view.loc (c : Thread nD τ) ↦[arg6.view.set]{fullShare} (arg6.view.writes (Elt F) f6 L6)) ∗ (arg7.view.loc (c : Thread nD τ) ↦[arg7.view.set]{fullShare} (arg7.view.writes (Elt F) f7 L7)) ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11))) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, ?run⟩
  case run =>
    intro E K
    simp only [cc0__body_eq_skeleton]; unfold cc0__body_skel
    simp only [k0_part69_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    iintro ⟨H1, H2, H3, H4, H5, H6, H7, H8, H9, H10, H11, Hk⟩
    sl_exec (disch := first | sl_exact hc0)
    sl_step
    iapply Hk
    sl_close

end Cert.KernelIdeal.Gen

end
-- ==== Proof.RunB.lean ====
module

public import proofs.«01_k».proof.Proof.Point
public import proofs.«01_k».proof.Proof.Gen.KernelIdeal.Loops

@[expose] public section

-- membership in a rectangle of production extents (`View.cover_of_tiled`): the elaborator's structural look
-- recurses once per coordinate of the long axes
set_option maxRecDepth 16384

noncomputable section

/-! The run of the body of `KernelIdeal` at the grid points after the first, with every store kept as a piece. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3280000 in
/-- The body's run after the first grid point: from the eleven operands at the contents `f·`, the body ends with the operands it
    stores into at the pieces listed (last store first) over those contents, and the others as they were. -/
@[irreducible] def runB (c : Dev nD) (i : grid0.Coords) (arg1 : Memref sig .tc .smem S64x24 .f32) (harg1 : arg1.IsWhole) (arg2 : Memref sig .tc .vmem S1536x3072 .bf16) (harg2 : arg2.IsWhole) (arg3 : Memref sig .tc .vmem S256x3072 .fp8e4m3) (harg3 : arg3.IsWhole) (arg4 : Memref sig .tc .vmem S256x3072 .fp8e4m3) (harg4 : arg4.IsWhole) (arg5 : Memref sig .tc .vmem S1536x256 .fp8e4m3) (harg5 : arg5.IsWhole) (arg6 : Memref sig .tc .vmem S1536x32 .f32) (harg6 : arg6.IsWhole) (arg7 : Memref sig .tc .vmem S1536x3072 .fp8e4m3) (harg7 : arg7.IsWhole) (arg8 : Memref sig .tc .vmem S1536x24 .f32) (harg8 : arg8.IsWhole) (arg9 : Memref sig .tc .vmem S1536x3072 .bf16) (harg9 : arg9.IsWhole) (arg10 : Memref sig .tc .vmem S256x3072 .bf16) (harg10 : arg10.IsWhole) (arg11 : Memref sig .tc .vmem S256x3072 .bf16) (harg11 : arg11.IsWhole) (hc0 : ¬cond0_0 i)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (L5 : List (View.Piece (Elt F) S1536x256 .fp8e4m3)) (L6 : List (View.Piece (Elt F) S1536x32 .f32)) (L10 : List (View.Piece (Elt F) S256x3072 .bf16)), { L11 : List (View.Piece (Elt F) S256x3072 .bf16) //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} (arg5.view.writes (Elt F) f5 L5)) ∗ (arg6.view.loc (c : Thread nD τ) ↦[arg6.view.set]{fullShare} (arg6.view.writes (Elt F) f6 L6)) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11))) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, ?_, ?_, ?_, ?run⟩
  case run =>
    intro E K
    simp only [cc0__body_eq_skeleton]; unfold cc0__body_skel
    simp only [k0_part69_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    iintro ⟨H1, H2, H3, H4, H5, H6, H7, H8, H9, H10, H11, Hk⟩
    sl_exec (disch := first | sl_exact hc0)
    sl_step
    iapply Hk
    sl_close

end Cert.KernelIdeal.Gen

end
-- ==== Proof.Weights.lean ====
module

public import proofs.«01_k».proof.Proof.Values
public import proofs.«01_k».proof.Proof.RunA
public import proofs.«01_k».proof.Proof.RunB
public import Idealize.ShloMosaic.Lib.Pipeline.Value
public import Idealize.ShloMosaic.Lib.Pipeline.ReadBack
public import Idealize.ShloMosaic.Lib.Pointwise

@[expose] public section

set_option maxRecDepth 16384

noncomputable section

namespace Cert.KernelIdeal.Gen

open Idealize.ShloMosaic Idealize.ShloMosaic.TcCoe
open Cert.Scale Cert.Val

variable {F : FTy → Type} [FloatOps F]

/-- A weight tile as the kernel dequantises it: the codes times one scale. -/
def dq (s : Elt F .f32) (w : Vec F S128x128 .fp8e4m3) : FVec F S128x128 .bf16 :=
  shapeCast S128x128 (mulf (extf .bf16 w bitsLt_fp8e4m3_bf16) (truncf .bf16 (broadcast S128x128 s) bitsLt_bf16_f32)) shapeCasts_S128x128_S128x128

/-- Each entry of a dequantised tile is the code times the scale. -/
theorem dq_apply (s : EReal) (w : Vec Ideal S128x128 .fp8e4m3) (r c : Fin 128) :
    dq (F := Ideal) s w (ix2 r c) = w (ix2 r c) * s := by
  pointwise [dq]

/-- The dequantised weight block: row `n`, column `d` of `W` times the scale at block row `base + n / 128`, block column `d / 128`. -/
def wG (base : ℕ) (hb : base + 2 ≤ 64) (W : Vec Ideal S256x3072 .fp8e4m3) (S : Vec Ideal S64x24 .f32) : Vec Ideal S256x3072 .bf16 :=
  fun y => W y * S (ix2 (⟨base + (y 0).val / 128, by have h : (y 0).val < 256 := (y 0).isLt; omega⟩ : Fin 64)
    (⟨(y 1).val / 128, by have h : (y 1).val < 3072 := (y 1).isLt; omega⟩ : Fin 24))

/-- One stored tile is its block of the dequantised weights. -/
theorem dq_piece (arg1 : Memref sig .tc .smem S64x24 .f32) (arg3 : Memref sig .tc .vmem S256x3072 .fp8e4m3)
    (f1 : BufTy.Contents (Elt Ideal) arg1.view.ty) (f3 : BufTy.Contents (Elt Ideal) arg3.view.ty) (base : ℕ) (hb : base + 2 ≤ 64) (b c : ℕ)
    (off : Fin 2 → ℕ) (h0 : off 0 = base + b) (h1 : off 1 = c)
    (inb1 : ∀ a, off a + S1x1.size a ≤ S64x24.size a) (o3 : Fin 2 → ℕ) (e0 : o3 0 = 128 * b) (e1 : o3 1 = 128 * c)
    (inb3 : ∀ a, o3 a + S128x128.size a ≤ S256x3072.size a)
    (hf : 0 < (Rect.unit (s := S64x24) off S1x1.size inb1).toLoadRect.shape.numel)
    (p : FVec Ideal S128x128 .bf16)
    (hp : p = dq (F := Ideal) (View.readAt (Elt Ideal) arg1.view (Rect.unit (s := S64x24) off S1x1.size inb1).toLoadRect f1 (Shape.Idx.first hf))
      (View.readAt (Elt Ideal) arg3.view (Rect.unit (s := S256x3072) o3 S128x128.size inb3).toLoadRect f3)) (x : S128x128.Idx) :
    p x = wG base hb (arg3.view.read (Elt Ideal) f3) (arg1.view.read (Elt Ideal) f1)
      ((Rect.unit (s := S256x3072) o3 S128x128.size inb3).emb x) := by
  obtain ⟨r, l, rfl⟩ : ∃ r l, x = ix2 r l := ⟨x 0, x 1, by funext a; match a with | ⟨0, _⟩ => rfl | ⟨1, _⟩ => rfl⟩
  have hr := r.isLt
  have hl := l.isLt
  rw [hp, dq_apply]
  show arg3.view.read (Elt Ideal) f3 ((Rect.unit (s := S256x3072) o3 S128x128.size inb3).emb (ix2 r l))
    * arg1.view.read (Elt Ideal) f1 ((Rect.unit (s := S64x24) off S1x1.size inb1).emb (Shape.Idx.first hf)) = _
  unfold wG
  refine congrArg (fun z => arg3.view.read (Elt Ideal) f3 ((Rect.unit (s := S256x3072) o3 S128x128.size inb3).emb (ix2 r l))
    * arg1.view.read (Elt Ideal) f1 z) ?_
  funext a
  match a with
  | ⟨0, _⟩ =>
    apply Fin.ext
    show off 0 + 1 * 0 = base + (o3 0 + 1 * r.val) / 128
    rw [h0, e0]; omega
  | ⟨1, _⟩ =>
    apply Fin.ext
    show off 1 + 1 * 0 = (o3 1 + 1 * l.val) / 128
    rw [h1, e1]; omega

/-- The block row of a gate scale, from the grid coordinate. -/
theorem off_gate (i : grid0.Coords) (b : ℕ) (hb : b < 2) :
    (Scalar.indexCast (Scalar.addi (Scalar.muli (BitVec.ofNat 32 (i 0).val) 2#32) (BitVec.ofNat 32 b))).toNat = 2 * (i 0).val + b := by
  have h : (i 0).val < 16 := (i 0).isLt
  show (BitVec.toNat _) = _
  simp only [Scalar.muli, Scalar.addi, IntOp.muli, IntOp.addi, Scalar.indexCast, BitVec.toNat_add, BitVec.toNat_mul, BitVec.toNat_ofNat]
  omega

/-- The block row of an up scale, from the grid coordinate. -/
theorem off_up (i : grid0.Coords) (b : ℕ) (hb : b < 2) :
    (Scalar.indexCast (Scalar.addi (Scalar.muli (Scalar.addi 16#32 (BitVec.ofNat 32 (i 0).val)) 2#32) (BitVec.ofNat 32 b))).toNat
      = 32 + 2 * (i 0).val + b := by
  have h : (i 0).val < 16 := (i 0).isLt
  show (BitVec.toNat _) = _
  simp only [Scalar.muli, Scalar.addi, IntOp.muli, IntOp.addi, Scalar.indexCast, BitVec.toNat_add, BitVec.toNat_mul, BitVec.toNat_ofNat]
  omega

/-- Every tile stored into the scratch is its block of the dequantised weights. -/
theorem runB_H10_48 (i : grid0.Coords) (arg1 : Memref sig .tc .smem S64x24 .f32) (arg3 : Memref sig .tc .vmem S256x3072 .fp8e4m3)
    (f1 : BufTy.Contents (Elt Ideal) arg1.view.ty) (f3 : BufTy.Contents (Elt Ideal) arg3.view.ty) (h : (i 0).val < 16) :
    View.PiecesOf (wG (0 + 2 * (i 0).val) (by omega) (arg3.view.read (Elt Ideal) f3) (arg1.view.read (Elt Ideal) f1)) (runB.sl.H10_48 i arg1 arg3 f1 f3) := by
  have hi := h
  refine ⟨dq_piece arg1 arg3 f1 f3 _ _ 1 23 (k0_off49 i 1#32) ((off_gate i 1 (by decide)).trans (by omega)) rfl _ _ rfl rfl _ _ _ rfl,
    dq_piece arg1 arg3 f1 f3 _ _ 1 22 (k0_off48 i 1#32) ((off_gate i 1 (by decide)).trans (by omega)) rfl _ _ rfl rfl _ _ _ rfl,
    dq_piece arg1 arg3 f1 f3 _ _ 1 21 (k0_off47 i 1#32) ((off_gate i 1 (by decide)).trans (by omega)) rfl _ _ rfl rfl _ _ _ rfl,
    dq_piece arg1 arg3 f1 f3 _ _ 1 20 (k0_off46 i 1#32) ((off_gate i 1 (by decide)).trans (by omega)) rfl _ _ rfl rfl _ _ _ rfl,
    dq_piece arg1 arg3 f1 f3 _ _ 1 19 (k0_off45 i 1#32) ((off_gate i 1 (by decide)).trans (by omega)) rfl _ _ rfl rfl _ _ _ rfl,
    dq_piece arg1 arg3 f1 f3 _ _ 1 18 (k0_off44 i 1#32) ((off_gate i 1 (by decide)).trans (by omega)) rfl _ _ rfl rfl _ _ _ rfl,
    dq_piece arg1 arg3 f1 f3 _ _ 1 17 (k0_off43 i 1#32) ((off_gate i 1 (by decide)).trans (by omega)) rfl _ _ rfl rfl _ _ _ rfl,
    dq_piece arg1 arg3 f1 f3 _ _ 1 16 (k0_off42 i 1#32) ((off_gate i 1 (by decide)).trans (by omega)) rfl _ _ rfl rfl _ _ _ rfl,
    dq_piece arg1 arg3 f1 f3 _ _ 1 15 (k0_off41 i 1#32) ((off_gate i 1 (by decide)).trans (by omega)) rfl _ _ rfl rfl _ _ _ rfl,
    dq_piece arg1 arg3 f1 f3 _ _ 1 14 (k0_off40 i 1#32) ((off_gate i 1 (by decide)).trans (by omega)) rfl _ _ rfl rfl _ _ _ rfl,
    dq_piece arg1 arg3 f1 f3 _ _ 1 13 (k0_off39 i 1#32) ((off_gate i 1 (by decide)).trans (by omega)) rfl _ _ rfl rfl _ _ _ rfl,
    dq_piece arg1 arg3 f1 f3 _ _ 1 12 (k0_off38 i 1#32) ((off_gate i 1 (by decide)).trans (by omega)) rfl _ _ rfl rfl _ _ _ rfl,
    dq_piece arg1 arg3 f1 f3 _ _ 1 11 (k0_off37 i 1#32) ((off_gate i 1 (by decide)).trans (by omega)) rfl _ _ rfl rfl _ _ _ rfl,
    dq_piece arg1 arg3 f1 f3 _ _ 1 10 (k0_off36 i 1#32) ((off_gate i 1 (by decide)).trans (by omega)) rfl _ _ rfl rfl _ _ _ rfl,
    dq_piece arg1 arg3 f1 f3 _ _ 1 9 (k0_off35 i 1#32) ((off_gate i 1 (by decide)).trans (by omega)) rfl _ _ rfl rfl _ _ _ rfl,
    dq_piece arg1 arg3 f1 f3 _ _ 1 8 (k0_off34 i 1#32) ((off_gate i 1 (by decide)).trans (by omega)) rfl _ _ rfl rfl _ _ _ rfl,
    dq_piece arg1 arg3 f1 f3 _ _ 1 7 (k0_off33 i 1#32) ((off_gate i 1 (by decide)).trans (by omega)) rfl _ _ rfl rfl _ _ _ rfl,
    dq_piece arg1 arg3 f1 f3 _ _ 1 6 (k0_off32 i 1#32) ((off_gate i 1 (by decide)).trans (by omega)) rfl _ _ rfl rfl _ _ _ rfl,
    dq_piece arg1 arg3 f1 f3 _ _ 1 5 (k0_off31 i 1#32) ((off_gate i 1 (by decide)).trans (by omega)) rfl _ _ rfl rfl _ _ _ rfl,
    dq_piece arg1 arg3 f1 f3 _ _ 1 4 (k0_off30 i 1#32) ((off_gate i 1 (by decide)).trans (by omega)) rfl _ _ rfl rfl _ _ _ rfl,
    dq_piece arg1 arg3 f1 f3 _ _ 1 3 (k0_off29 i 1#32) ((off_gate i 1 (by decide)).trans (by omega)) rfl _ _ rfl rfl _ _ _ rfl,
    dq_piece arg1 arg3 f1 f3 _ _ 1 2 (k0_off28 i 1#32) ((off_gate i 1 (by decide)).trans (by omega)) rfl _ _ rfl rfl _ _ _ rfl,
    dq_piece arg1 arg3 f1 f3 _ _ 1 1 (k0_off27 i 1#32) ((off_gate i 1 (by decide)).trans (by omega)) rfl _ _ rfl rfl _ _ _ rfl,
    dq_piece arg1 arg3 f1 f3 _ _ 1 0 (k0_off26 i 1#32) ((off_gate i 1 (by decide)).trans (by omega)) rfl _ _ rfl rfl _ _ _ rfl,
    dq_piece arg1 arg3 f1 f3 _ _ 0 23 (k0_off49 i 0#32) ((off_gate i 0 (by decide)).trans (by omega)) rfl _ _ rfl rfl _ _ _ rfl,
    dq_piece arg1 arg3 f1 f3 _ _ 0 22 (k0_off48 i 0#32) ((off_gate i 0 (by decide)).trans (by omega)) rfl _ _ rfl rfl _ _ _ rfl,
    dq_piece arg1 arg3 f1 f3 _ _ 0 21 (k0_off47 i 0#32) ((off_gate i 0 (by decide)).trans (by omega)) rfl _ _ rfl rfl _ _ _ rfl,
    dq_piece arg1 arg3 f1 f3 _ _ 0 20 (k0_off46 i 0#32) ((off_gate i 0 (by decide)).trans (by omega)) rfl _ _ rfl rfl _ _ _ rfl,
    dq_piece arg1 arg3 f1 f3 _ _ 0 19 (k0_off45 i 0#32) ((off_gate i 0 (by decide)).trans (by omega)) rfl _ _ rfl rfl _ _ _ rfl,
    dq_piece arg1 arg3 f1 f3 _ _ 0 18 (k0_off44 i 0#32) ((off_gate i 0 (by decide)).trans (by omega)) rfl _ _ rfl rfl _ _ _ rfl,
    dq_piece arg1 arg3 f1 f3 _ _ 0 17 (k0_off43 i 0#32) ((off_gate i 0 (by decide)).trans (by omega)) rfl _ _ rfl rfl _ _ _ rfl,
    dq_piece arg1 arg3 f1 f3 _ _ 0 16 (k0_off42 i 0#32) ((off_gate i 0 (by decide)).trans (by omega)) rfl _ _ rfl rfl _ _ _ rfl,
    dq_piece arg1 arg3 f1 f3 _ _ 0 15 (k0_off41 i 0#32) ((off_gate i 0 (by decide)).trans (by omega)) rfl _ _ rfl rfl _ _ _ rfl,
    dq_piece arg1 arg3 f1 f3 _ _ 0 14 (k0_off40 i 0#32) ((off_gate i 0 (by decide)).trans (by omega)) rfl _ _ rfl rfl _ _ _ rfl,
    dq_piece arg1 arg3 f1 f3 _ _ 0 13 (k0_off39 i 0#32) ((off_gate i 0 (by decide)).trans (by omega)) rfl _ _ rfl rfl _ _ _ rfl,
    dq_piece arg1 arg3 f1 f3 _ _ 0 12 (k0_off38 i 0#32) ((off_gate i 0 (by decide)).trans (by omega)) rfl _ _ rfl rfl _ _ _ rfl,
    dq_piece arg1 arg3 f1 f3 _ _ 0 11 (k0_off37 i 0#32) ((off_gate i 0 (by decide)).trans (by omega)) rfl _ _ rfl rfl _ _ _ rfl,
    dq_piece arg1 arg3 f1 f3 _ _ 0 10 (k0_off36 i 0#32) ((off_gate i 0 (by decide)).trans (by omega)) rfl _ _ rfl rfl _ _ _ rfl,
    dq_piece arg1 arg3 f1 f3 _ _ 0 9 (k0_off35 i 0#32) ((off_gate i 0 (by decide)).trans (by omega)) rfl _ _ rfl rfl _ _ _ rfl,
    dq_piece arg1 arg3 f1 f3 _ _ 0 8 (k0_off34 i 0#32) ((off_gate i 0 (by decide)).trans (by omega)) rfl _ _ rfl rfl _ _ _ rfl,
    dq_piece arg1 arg3 f1 f3 _ _ 0 7 (k0_off33 i 0#32) ((off_gate i 0 (by decide)).trans (by omega)) rfl _ _ rfl rfl _ _ _ rfl,
    dq_piece arg1 arg3 f1 f3 _ _ 0 6 (k0_off32 i 0#32) ((off_gate i 0 (by decide)).trans (by omega)) rfl _ _ rfl rfl _ _ _ rfl,
    dq_piece arg1 arg3 f1 f3 _ _ 0 5 (k0_off31 i 0#32) ((off_gate i 0 (by decide)).trans (by omega)) rfl _ _ rfl rfl _ _ _ rfl,
    dq_piece arg1 arg3 f1 f3 _ _ 0 4 (k0_off30 i 0#32) ((off_gate i 0 (by decide)).trans (by omega)) rfl _ _ rfl rfl _ _ _ rfl,
    dq_piece arg1 arg3 f1 f3 _ _ 0 3 (k0_off29 i 0#32) ((off_gate i 0 (by decide)).trans (by omega)) rfl _ _ rfl rfl _ _ _ rfl,
    dq_piece arg1 arg3 f1 f3 _ _ 0 2 (k0_off28 i 0#32) ((off_gate i 0 (by decide)).trans (by omega)) rfl _ _ rfl rfl _ _ _ rfl,
    dq_piece arg1 arg3 f1 f3 _ _ 0 1 (k0_off27 i 0#32) ((off_gate i 0 (by decide)).trans (by omega)) rfl _ _ rfl rfl _ _ _ rfl,
    dq_piece arg1 arg3 f1 f3 _ _ 0 0 (k0_off26 i 0#32) ((off_gate i 0 (by decide)).trans (by omega)) rfl _ _ rfl rfl _ _ _ rfl,
    trivial⟩

/-- Every tile stored into the scratch is its block of the dequantised weights. -/
theorem runB_H11_48 (i : grid0.Coords) (arg1 : Memref sig .tc .smem S64x24 .f32) (arg4 : Memref sig .tc .vmem S256x3072 .fp8e4m3)
    (f1 : BufTy.Contents (Elt Ideal) arg1.view.ty) (f4 : BufTy.Contents (Elt Ideal) arg4.view.ty) (h : (i 0).val < 16) :
    View.PiecesOf (wG (32 + 2 * (i 0).val) (by omega) (arg4.view.read (Elt Ideal) f4) (arg1.view.read (Elt Ideal) f1)) (runB.sl.H11_48 i arg1 arg4 f1 f4) := by
  have hi := h
  refine ⟨dq_piece arg1 arg4 f1 f4 _ _ 1 23 (k0_off73 i 1#32) ((off_up i 1 (by decide))) rfl _ _ rfl rfl _ _ _ rfl,
    dq_piece arg1 arg4 f1 f4 _ _ 1 22 (k0_off72 i 1#32) ((off_up i 1 (by decide))) rfl _ _ rfl rfl _ _ _ rfl,
    dq_piece arg1 arg4 f1 f4 _ _ 1 21 (k0_off71 i 1#32) ((off_up i 1 (by decide))) rfl _ _ rfl rfl _ _ _ rfl,
    dq_piece arg1 arg4 f1 f4 _ _ 1 20 (k0_off70 i 1#32) ((off_up i 1 (by decide))) rfl _ _ rfl rfl _ _ _ rfl,
    dq_piece arg1 arg4 f1 f4 _ _ 1 19 (k0_off69 i 1#32) ((off_up i 1 (by decide))) rfl _ _ rfl rfl _ _ _ rfl,
    dq_piece arg1 arg4 f1 f4 _ _ 1 18 (k0_off68 i 1#32) ((off_up i 1 (by decide))) rfl _ _ rfl rfl _ _ _ rfl,
    dq_piece arg1 arg4 f1 f4 _ _ 1 17 (k0_off67 i 1#32) ((off_up i 1 (by decide))) rfl _ _ rfl rfl _ _ _ rfl,
    dq_piece arg1 arg4 f1 f4 _ _ 1 16 (k0_off66 i 1#32) ((off_up i 1 (by decide))) rfl _ _ rfl rfl _ _ _ rfl,
    dq_piece arg1 arg4 f1 f4 _ _ 1 15 (k0_off65 i 1#32) ((off_up i 1 (by decide))) rfl _ _ rfl rfl _ _ _ rfl,
    dq_piece arg1 arg4 f1 f4 _ _ 1 14 (k0_off64 i 1#32) ((off_up i 1 (by decide))) rfl _ _ rfl rfl _ _ _ rfl,
    dq_piece arg1 arg4 f1 f4 _ _ 1 13 (k0_off63 i 1#32) ((off_up i 1 (by decide))) rfl _ _ rfl rfl _ _ _ rfl,
    dq_piece arg1 arg4 f1 f4 _ _ 1 12 (k0_off62 i 1#32) ((off_up i 1 (by decide))) rfl _ _ rfl rfl _ _ _ rfl,
    dq_piece arg1 arg4 f1 f4 _ _ 1 11 (k0_off61 i 1#32) ((off_up i 1 (by decide))) rfl _ _ rfl rfl _ _ _ rfl,
    dq_piece arg1 arg4 f1 f4 _ _ 1 10 (k0_off60 i 1#32) ((off_up i 1 (by decide))) rfl _ _ rfl rfl _ _ _ rfl,
    dq_piece arg1 arg4 f1 f4 _ _ 1 9 (k0_off59 i 1#32) ((off_up i 1 (by decide))) rfl _ _ rfl rfl _ _ _ rfl,
    dq_piece arg1 arg4 f1 f4 _ _ 1 8 (k0_off58 i 1#32) ((off_up i 1 (by decide))) rfl _ _ rfl rfl _ _ _ rfl,
    dq_piece arg1 arg4 f1 f4 _ _ 1 7 (k0_off57 i 1#32) ((off_up i 1 (by decide))) rfl _ _ rfl rfl _ _ _ rfl,
    dq_piece arg1 arg4 f1 f4 _ _ 1 6 (k0_off56 i 1#32) ((off_up i 1 (by decide))) rfl _ _ rfl rfl _ _ _ rfl,
    dq_piece arg1 arg4 f1 f4 _ _ 1 5 (k0_off55 i 1#32) ((off_up i 1 (by decide))) rfl _ _ rfl rfl _ _ _ rfl,
    dq_piece arg1 arg4 f1 f4 _ _ 1 4 (k0_off54 i 1#32) ((off_up i 1 (by decide))) rfl _ _ rfl rfl _ _ _ rfl,
    dq_piece arg1 arg4 f1 f4 _ _ 1 3 (k0_off53 i 1#32) ((off_up i 1 (by decide))) rfl _ _ rfl rfl _ _ _ rfl,
    dq_piece arg1 arg4 f1 f4 _ _ 1 2 (k0_off52 i 1#32) ((off_up i 1 (by decide))) rfl _ _ rfl rfl _ _ _ rfl,
    dq_piece arg1 arg4 f1 f4 _ _ 1 1 (k0_off51 i 1#32) ((off_up i 1 (by decide))) rfl _ _ rfl rfl _ _ _ rfl,
    dq_piece arg1 arg4 f1 f4 _ _ 1 0 (k0_off50 i 1#32) ((off_up i 1 (by decide))) rfl _ _ rfl rfl _ _ _ rfl,
    dq_piece arg1 arg4 f1 f4 _ _ 0 23 (k0_off73 i 0#32) ((off_up i 0 (by decide))) rfl _ _ rfl rfl _ _ _ rfl,
    dq_piece arg1 arg4 f1 f4 _ _ 0 22 (k0_off72 i 0#32) ((off_up i 0 (by decide))) rfl _ _ rfl rfl _ _ _ rfl,
    dq_piece arg1 arg4 f1 f4 _ _ 0 21 (k0_off71 i 0#32) ((off_up i 0 (by decide))) rfl _ _ rfl rfl _ _ _ rfl,
    dq_piece arg1 arg4 f1 f4 _ _ 0 20 (k0_off70 i 0#32) ((off_up i 0 (by decide))) rfl _ _ rfl rfl _ _ _ rfl,
    dq_piece arg1 arg4 f1 f4 _ _ 0 19 (k0_off69 i 0#32) ((off_up i 0 (by decide))) rfl _ _ rfl rfl _ _ _ rfl,
    dq_piece arg1 arg4 f1 f4 _ _ 0 18 (k0_off68 i 0#32) ((off_up i 0 (by decide))) rfl _ _ rfl rfl _ _ _ rfl,
    dq_piece arg1 arg4 f1 f4 _ _ 0 17 (k0_off67 i 0#32) ((off_up i 0 (by decide))) rfl _ _ rfl rfl _ _ _ rfl,
    dq_piece arg1 arg4 f1 f4 _ _ 0 16 (k0_off66 i 0#32) ((off_up i 0 (by decide))) rfl _ _ rfl rfl _ _ _ rfl,
    dq_piece arg1 arg4 f1 f4 _ _ 0 15 (k0_off65 i 0#32) ((off_up i 0 (by decide))) rfl _ _ rfl rfl _ _ _ rfl,
    dq_piece arg1 arg4 f1 f4 _ _ 0 14 (k0_off64 i 0#32) ((off_up i 0 (by decide))) rfl _ _ rfl rfl _ _ _ rfl,
    dq_piece arg1 arg4 f1 f4 _ _ 0 13 (k0_off63 i 0#32) ((off_up i 0 (by decide))) rfl _ _ rfl rfl _ _ _ rfl,
    dq_piece arg1 arg4 f1 f4 _ _ 0 12 (k0_off62 i 0#32) ((off_up i 0 (by decide))) rfl _ _ rfl rfl _ _ _ rfl,
    dq_piece arg1 arg4 f1 f4 _ _ 0 11 (k0_off61 i 0#32) ((off_up i 0 (by decide))) rfl _ _ rfl rfl _ _ _ rfl,
    dq_piece arg1 arg4 f1 f4 _ _ 0 10 (k0_off60 i 0#32) ((off_up i 0 (by decide))) rfl _ _ rfl rfl _ _ _ rfl,
    dq_piece arg1 arg4 f1 f4 _ _ 0 9 (k0_off59 i 0#32) ((off_up i 0 (by decide))) rfl _ _ rfl rfl _ _ _ rfl,
    dq_piece arg1 arg4 f1 f4 _ _ 0 8 (k0_off58 i 0#32) ((off_up i 0 (by decide))) rfl _ _ rfl rfl _ _ _ rfl,
    dq_piece arg1 arg4 f1 f4 _ _ 0 7 (k0_off57 i 0#32) ((off_up i 0 (by decide))) rfl _ _ rfl rfl _ _ _ rfl,
    dq_piece arg1 arg4 f1 f4 _ _ 0 6 (k0_off56 i 0#32) ((off_up i 0 (by decide))) rfl _ _ rfl rfl _ _ _ rfl,
    dq_piece arg1 arg4 f1 f4 _ _ 0 5 (k0_off55 i 0#32) ((off_up i 0 (by decide))) rfl _ _ rfl rfl _ _ _ rfl,
    dq_piece arg1 arg4 f1 f4 _ _ 0 4 (k0_off54 i 0#32) ((off_up i 0 (by decide))) rfl _ _ rfl rfl _ _ _ rfl,
    dq_piece arg1 arg4 f1 f4 _ _ 0 3 (k0_off53 i 0#32) ((off_up i 0 (by decide))) rfl _ _ rfl rfl _ _ _ rfl,
    dq_piece arg1 arg4 f1 f4 _ _ 0 2 (k0_off52 i 0#32) ((off_up i 0 (by decide))) rfl _ _ rfl rfl _ _ _ rfl,
    dq_piece arg1 arg4 f1 f4 _ _ 0 1 (k0_off51 i 0#32) ((off_up i 0 (by decide))) rfl _ _ rfl rfl _ _ _ rfl,
    dq_piece arg1 arg4 f1 f4 _ _ 0 0 (k0_off50 i 0#32) ((off_up i 0 (by decide))) rfl _ _ rfl rfl _ _ _ rfl,
    trivial⟩

/-- The gate weight's stores are the same at the first point as at the others. -/
theorem runA_H10_48 (i : grid0.Coords) (arg1 : Memref sig .tc .smem S64x24 .f32) (arg3 : Memref sig .tc .vmem S256x3072 .fp8e4m3)
    (f1 : BufTy.Contents (Elt F) arg1.view.ty) (f3 : BufTy.Contents (Elt F) arg3.view.ty) :
    runA.sl.H10_48 i arg1 arg3 f1 f3 = runB.sl.H10_48 i arg1 arg3 f1 f3 := rfl
/-- The up weight's stores are the same at the first point as at the others. -/
theorem runA_H11_48 (i : grid0.Coords) (arg1 : Memref sig .tc .smem S64x24 .f32) (arg4 : Memref sig .tc .vmem S256x3072 .fp8e4m3)
    (f1 : BufTy.Contents (Elt F) arg1.view.ty) (f4 : BufTy.Contents (Elt F) arg4.view.ty) :
    runA.sl.H11_48 i arg1 arg4 f1 f4 = runB.sl.H11_48 i arg1 arg4 f1 f4 := rfl

end Cert.KernelIdeal.Gen
end
-- ==== Proof.TileLists.lean ====
module

public import proofs.«01_k».proof.Proof.Quant
public import proofs.«01_k».proof.Proof.Weights

@[expose] public section

set_option maxRecDepth 16384

noncomputable section

/-! What one grid point stores into the block of codes and into the scales, as functions of the quantised activations and
the two dequantised weight blocks. -/

namespace Cert.KernelIdeal.Gen

open Idealize.ShloMosaic Idealize.ShloMosaic.TcCoe
open Cert.Scale Cert.Val

variable {F : FTy → Type} [FloatOps F]

/-- The codes of one half of a hidden block. -/
def halfCodes (g : FVec F S512x128 .f32) : FVec F S512x128 .fp8e4m3 := codes512 g (expo512 (absf g))

/-- The scales of one half of a hidden block. -/
def halfScale (g : FVec F S512x128 .f32) : FVec F S512x1 .f32 := scale512 (expo512 (absf g))

/-- The lane a grid point writes for half `b`. -/
def laneOf (i : grid0.Coords) (b : BitVec 32) : BitVec 32 := Scalar.addi (Scalar.muli (BitVec.ofNat 32 (i 0).val) 2#32) b

/-- The two lane writes of one block of 512 rows. -/
def lanes2 (i : grid0.Coords) (prev : Vec F S512x32 .f32) (h : FVec F S512x256 .f32) : FVec F S512x32 .f32 :=
  lane (laneOf i 1#32) lanes (lane (laneOf i 0#32) lanes (shapeCast S512x32 prev shapeCasts_S512x32_S512x32) (halfScale (left h)))
    (halfScale (right h))

/-- The stores into the block of codes, from the three blocks of quantised rows and the two weight blocks. -/
def codeList (q0 q1 q2 : Vec F S512x3072 .bf16) (wg wu : Vec F S256x3072 .bf16) : List (View.Piece (Elt F) S1536x256 .fp8e4m3) :=
  [⟨Rect.unit ![1024, 128] S512x128.size inb_S1536x256_S512x128_1024_128, halfCodes (right (tile q2 wg wu))⟩,
    ⟨Rect.unit ![1024, 0] S512x128.size inb_S1536x256_S512x128_1024_0, halfCodes (left (tile q2 wg wu))⟩,
    ⟨Rect.unit ![512, 128] S512x128.size inb_S1536x256_S512x128_512_128, halfCodes (right (tile q1 wg wu))⟩,
    ⟨Rect.unit ![512, 0] S512x128.size inb_S1536x256_S512x128_512_0, halfCodes (left (tile q1 wg wu))⟩,
    ⟨Rect.unit ![0, 128] S512x128.size inb_S1536x256_S512x128_0_128, halfCodes (right (tile q0 wg wu))⟩,
    ⟨Rect.unit ![0, 0] S512x128.size inb_S1536x256_S512x128_0_0, halfCodes (left (tile q0 wg wu))⟩]

/-- The stores into the scales, from the same and the scales found there. -/
def scaleList (i : grid0.Coords) (p0 p1 p2 : Vec F S512x32 .f32) (q0 q1 q2 : Vec F S512x3072 .bf16) (wg wu : Vec F S256x3072 .bf16) :
    List (View.Piece (Elt F) S1536x32 .f32) :=
  [⟨Rect.unit ![1024, 0] S512x32.size inb_S1536x32_S512x32_1024_0, lanes2 i p2 (tile q2 wg wu)⟩,
    ⟨Rect.unit ![512, 0] S512x32.size inb_S1536x32_S512x32_512_0, lanes2 i p1 (tile q1 wg wu)⟩,
    ⟨Rect.unit ![0, 0] S512x32.size inb_S1536x32_S512x32_0_0, lanes2 i p0 (tile q0 wg wu)⟩]

/-- The three blocks of 512 rows. -/
abbrev rows0 : Rect S1536x3072 := Rect.unit ![0, 0] S512x3072.size inb_S1536x3072_S512x3072_0_0
/-- Rows 512 to 1023. -/
abbrev rows1 : Rect S1536x3072 := Rect.unit ![512, 0] S512x3072.size inb_S1536x3072_S512x3072_512_0
/-- Rows 1024 to 1535. -/
abbrev rows2 : Rect S1536x3072 := Rect.unit ![1024, 0] S512x3072.size inb_S1536x3072_S512x3072_1024_0
/-- Rows 0 to 511 of the hidden scales. -/
abbrev srows0 : Rect S1536x32 := Rect.unit ![0, 0] S512x32.size inb_S1536x32_S512x32_0_0
/-- Rows 512 to 1023 of the hidden scales. -/
abbrev srows1 : Rect S1536x32 := Rect.unit ![512, 0] S512x32.size inb_S1536x32_S512x32_512_0
/-- Rows 1024 to 1535 of the hidden scales. -/
abbrev srows2 : Rect S1536x32 := Rect.unit ![1024, 0] S512x32.size inb_S1536x32_S512x32_1024_0

/-- The lists of a later grid point are these stores. -/
theorem runB_lists (c : Dev nD) (i : grid0.Coords) (arg1 : Memref sig .tc .smem S64x24 .f32) (harg1 : arg1.IsWhole) (arg2 : Memref sig .tc .vmem S1536x3072 .bf16) (harg2 : arg2.IsWhole) (arg3 : Memref sig .tc .vmem S256x3072 .fp8e4m3) (harg3 : arg3.IsWhole) (arg4 : Memref sig .tc .vmem S256x3072 .fp8e4m3) (harg4 : arg4.IsWhole) (arg5 : Memref sig .tc .vmem S1536x256 .fp8e4m3) (harg5 : arg5.IsWhole) (arg6 : Memref sig .tc .vmem S1536x32 .f32) (harg6 : arg6.IsWhole) (arg7 : Memref sig .tc .vmem S1536x3072 .fp8e4m3) (harg7 : arg7.IsWhole) (arg8 : Memref sig .tc .vmem S1536x24 .f32) (harg8 : arg8.IsWhole) (arg9 : Memref sig .tc .vmem S1536x3072 .bf16) (harg9 : arg9.IsWhole) (arg10 : Memref sig .tc .vmem S256x3072 .bf16) (harg10 : arg10.IsWhole) (arg11 : Memref sig .tc .vmem S256x3072 .bf16) (harg11 : arg11.IsWhole) (hc0 : ¬cond0_0 i)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    (runB c i arg1 harg1 arg2 harg2 arg3 harg3 arg4 harg4 arg5 harg5 arg6 harg6 arg7 harg7 arg8 harg8 arg9 harg9 arg10 harg10 arg11 harg11 hc0 f1 f2 f3 f4 f5 f6 f7 f8 f9 f10 f11).1
      = codeList (View.readAt (Elt F) arg9.view rows0.toLoadRect f9) (View.readAt (Elt F) arg9.view rows1.toLoadRect f9)
          (View.readAt (Elt F) arg9.view rows2.toLoadRect f9) (runB.sl.v1063 i arg1 arg3 arg10 f1 f3) (runB.sl.v1065 i arg1 arg4 arg11 f1 f4)
    ∧ (runB c i arg1 harg1 arg2 harg2 arg3 harg3 arg4 harg4 arg5 harg5 arg6 harg6 arg7 harg7 arg8 harg8 arg9 harg9 arg10 harg10 arg11 harg11 hc0 f1 f2 f3 f4 f5 f6 f7 f8 f9 f10 f11).2.1
      = scaleList i (View.readAt (Elt F) arg6.view srows0.toLoadRect f6) (View.readAt (Elt F) arg6.view srows1.toLoadRect f6)
          (View.readAt (Elt F) arg6.view srows2.toLoadRect f6) (View.readAt (Elt F) arg9.view rows0.toLoadRect f9) (View.readAt (Elt F) arg9.view rows1.toLoadRect f9)
          (View.readAt (Elt F) arg9.view rows2.toLoadRect f9) (runB.sl.v1063 i arg1 arg3 arg10 f1 f3) (runB.sl.v1065 i arg1 arg4 arg11 f1 f4) := by
  unfold runB
  exact ⟨rfl, rfl⟩

/-- The lists of the first grid point are these stores, reading the quantised activations its loop has stored. -/
theorem runA_lists (c : Dev nD) (i : grid0.Coords) (arg1 : Memref sig .tc .smem S64x24 .f32) (harg1 : arg1.IsWhole) (arg2 : Memref sig .tc .vmem S1536x3072 .bf16) (harg2 : arg2.IsWhole) (arg3 : Memref sig .tc .vmem S256x3072 .fp8e4m3) (harg3 : arg3.IsWhole) (arg4 : Memref sig .tc .vmem S256x3072 .fp8e4m3) (harg4 : arg4.IsWhole) (arg5 : Memref sig .tc .vmem S1536x256 .fp8e4m3) (harg5 : arg5.IsWhole) (arg6 : Memref sig .tc .vmem S1536x32 .f32) (harg6 : arg6.IsWhole) (arg7 : Memref sig .tc .vmem S1536x3072 .fp8e4m3) (harg7 : arg7.IsWhole) (arg8 : Memref sig .tc .vmem S1536x24 .f32) (harg8 : arg8.IsWhole) (arg9 : Memref sig .tc .vmem S1536x3072 .bf16) (harg9 : arg9.IsWhole) (arg10 : Memref sig .tc .vmem S256x3072 .bf16) (harg10 : arg10.IsWhole) (arg11 : Memref sig .tc .vmem S256x3072 .bf16) (harg11 : arg11.IsWhole) (hc0 : cond0_0 i)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    (runA c i arg1 harg1 arg2 harg2 arg3 harg3 arg4 harg4 arg5 harg5 arg6 harg6 arg7 harg7 arg8 harg8 arg9 harg9 arg10 harg10 arg11 harg11 hc0 f1 f2 f3 f4 f5 f6 f7 f8 f9 f10 f11).1 = codeList (View.readAt (Elt F) arg9.view rows0.toLoadRect (arg9.view.writes (Elt F) f9 (pb_k0_t1 Variants.none c none i arg1 harg1 arg2 harg2 arg3 harg3 arg4 harg4 arg5 harg5 arg6 harg6 arg7 harg7 arg8 harg8 arg9 harg9 arg10 harg10 arg11 harg11 hc0 f2 (Scf.trips k0_t1_loop.lb k0_t1_loop.ub k0_t1_loop.st)).2.2)) (View.readAt (Elt F) arg9.view rows1.toLoadRect (arg9.view.writes (Elt F) f9 (pb_k0_t1 Variants.none c none i arg1 harg1 arg2 harg2 arg3 harg3 arg4 harg4 arg5 harg5 arg6 harg6 arg7 harg7 arg8 harg8 arg9 harg9 arg10 harg10 arg11 harg11 hc0 f2 (Scf.trips k0_t1_loop.lb k0_t1_loop.ub k0_t1_loop.st)).2.2)) (View.readAt (Elt F) arg9.view rows2.toLoadRect (arg9.view.writes (Elt F) f9 (pb_k0_t1 Variants.none c none i arg1 harg1 arg2 harg2 arg3 harg3 arg4 harg4 arg5 harg5 arg6 harg6 arg7 harg7 arg8 harg8 arg9 harg9 arg10 harg10 arg11 harg11 hc0 f2 (Scf.trips k0_t1_loop.lb k0_t1_loop.ub k0_t1_loop.st)).2.2)) (runB.sl.v1063 i arg1 arg3 arg10 f1 f3) (runB.sl.v1065 i arg1 arg4 arg11 f1 f4)
    ∧ (runA c i arg1 harg1 arg2 harg2 arg3 harg3 arg4 harg4 arg5 harg5 arg6 harg6 arg7 harg7 arg8 harg8 arg9 harg9 arg10 harg10 arg11 harg11 hc0 f1 f2 f3 f4 f5 f6 f7 f8 f9 f10 f11).2.1 = scaleList i (View.readAt (Elt F) arg6.view srows0.toLoadRect f6) (View.readAt (Elt F) arg6.view srows1.toLoadRect f6) (View.readAt (Elt F) arg6.view srows2.toLoadRect f6) (View.readAt (Elt F) arg9.view rows0.toLoadRect (arg9.view.writes (Elt F) f9 (pb_k0_t1 Variants.none c none i arg1 harg1 arg2 harg2 arg3 harg3 arg4 harg4 arg5 harg5 arg6 harg6 arg7 harg7 arg8 harg8 arg9 harg9 arg10 harg10 arg11 harg11 hc0 f2 (Scf.trips k0_t1_loop.lb k0_t1_loop.ub k0_t1_loop.st)).2.2)) (View.readAt (Elt F) arg9.view rows1.toLoadRect (arg9.view.writes (Elt F) f9 (pb_k0_t1 Variants.none c none i arg1 harg1 arg2 harg2 arg3 harg3 arg4 harg4 arg5 harg5 arg6 harg6 arg7 harg7 arg8 harg8 arg9 harg9 arg10 harg10 arg11 harg11 hc0 f2 (Scf.trips k0_t1_loop.lb k0_t1_loop.ub k0_t1_loop.st)).2.2)) (View.readAt (Elt F) arg9.view rows2.toLoadRect (arg9.view.writes (Elt F) f9 (pb_k0_t1 Variants.none c none i arg1 harg1 arg2 harg2 arg3 harg3 arg4 harg4 arg5 harg5 arg6 harg6 arg7 harg7 arg8 harg8 arg9 harg9 arg10 harg10 arg11 harg11 hc0 f2 (Scf.trips k0_t1_loop.lb k0_t1_loop.ub k0_t1_loop.st)).2.2)) (runB.sl.v1063 i arg1 arg3 arg10 f1 f3) (runB.sl.v1065 i arg1 arg4 arg11 f1 f4)
    ∧ (runA c i arg1 harg1 arg2 harg2 arg3 harg3 arg4 harg4 arg5 harg5 arg6 harg6 arg7 harg7 arg8 harg8 arg9 harg9 arg10 harg10 arg11 harg11 hc0 f1 f2 f3 f4 f5 f6 f7 f8 f9 f10 f11).2.2.1 = (pb_k0_t1 Variants.none c none i arg1 harg1 arg2 harg2 arg3 harg3 arg4 harg4 arg5 harg5 arg6 harg6 arg7 harg7 arg8 harg8 arg9 harg9 arg10 harg10 arg11 harg11 hc0 f2 (Scf.trips k0_t1_loop.lb k0_t1_loop.ub k0_t1_loop.st)).1 ∧ (runA c i arg1 harg1 arg2 harg2 arg3 harg3 arg4 harg4 arg5 harg5 arg6 harg6 arg7 harg7 arg8 harg8 arg9 harg9 arg10 harg10 arg11 harg11 hc0 f1 f2 f3 f4 f5 f6 f7 f8 f9 f10 f11).2.2.2.1 = (pb_k0_t1 Variants.none c none i arg1 harg1 arg2 harg2 arg3 harg3 arg4 harg4 arg5 harg5 arg6 harg6 arg7 harg7 arg8 harg8 arg9 harg9 arg10 harg10 arg11 harg11 hc0 f2 (Scf.trips k0_t1_loop.lb k0_t1_loop.ub k0_t1_loop.st)).2.1 ∧ (runA c i arg1 harg1 arg2 harg2 arg3 harg3 arg4 harg4 arg5 harg5 arg6 harg6 arg7 harg7 arg8 harg8 arg9 harg9 arg10 harg10 arg11 harg11 hc0 f1 f2 f3 f4 f5 f6 f7 f8 f9 f10 f11).2.2.2.2.1 = (pb_k0_t1 Variants.none c none i arg1 harg1 arg2 harg2 arg3 harg3 arg4 harg4 arg5 harg5 arg6 harg6 arg7 harg7 arg8 harg8 arg9 harg9 arg10 harg10 arg11 harg11 hc0 f2 (Scf.trips k0_t1_loop.lb k0_t1_loop.ub k0_t1_loop.st)).2.2 := by
  unfold runA
  exact ⟨rfl, rfl, rfl, rfl, rfl⟩

end Cert.KernelIdeal.Gen
end
-- ==== Proof.Tile.lean ====
module

public import proofs.«01_k».proof.Proof.TileLists

@[expose] public section

set_option maxRecDepth 16384

noncomputable section

/-! The values one grid point leaves: its block of codes, and its two lanes of scales, from the quantised activations and the
two dequantised weight blocks. -/

namespace Cert.KernelIdeal.Gen

open Idealize.ShloMosaic Idealize.ShloMosaic.TcCoe
open Cert.Scale Cert.Val

/-- The codes of half a hidden block, value by value. -/
theorem halfCodes_apply (g : FVec Ideal S512x128 .f32) (r : Fin 512) (l : Fin 128) :
    halfCodes g (ix2 r l) = clip (g (ix2 r l) * invK (yOf fun k => g (ix2 r k))) := by
  unfold halfCodes
  rw [codes512_apply, expo512_apply]
  rfl

/-- The scales of half a hidden block, row by row. -/
theorem halfScale_apply (g : FVec Ideal S512x128 .f32) (r : Fin 512) :
    halfScale g (ix2 r 0) = scaleK (yOf fun k => g (ix2 r k)) := by
  unfold halfScale
  rw [scale512_apply, expo512_apply]
  rfl

/-- The lane written for half `b` of grid point `i` is `2 i + b`. -/
theorem laneOf_eq (i : grid0.Coords) (b : ℕ) (hb : b < 2) (l : Fin 32) :
    BitVec.ofNat 32 l.val = laneOf i (BitVec.ofNat 32 b) ↔ l.val = 2 * (i 0).val + b := by
  have h : (i 0).val < 16 := (i 0).isLt
  have hl := l.isLt
  rw [← BitVec.toNat_inj]
  simp only [laneOf, Scalar.muli, Scalar.addi, IntOp.muli, IntOp.addi, BitVec.toNat_add, BitVec.toNat_mul, BitVec.toNat_ofNat]
  omega

/-- After the two lane writes the lanes `2 i` and `2 i + 1` hold the scales of the two halves, the others what was there. -/
theorem lanes2_apply (i : grid0.Coords) (prev : Vec Ideal S512x32 .f32) (h : FVec Ideal S512x256 .f32) (r : Fin 512) (l : Fin 32) :
    lanes2 i prev h (ix2 r l) = if l.val = 2 * (i 0).val + 1 then scaleK (yOf fun k => right h (ix2 r k))
      else if l.val = 2 * (i 0).val then scaleK (yOf fun k => left h (ix2 r k)) else prev (ix2 r l) := by
  unfold lanes2
  rw [lane_apply, lane_apply, halfScale_apply, halfScale_apply, shapeCast_self]
  simp only [show (BitVec.ofNat 32 l.val = laneOf i 1#32) = (l.val = 2 * (i 0).val + 1) from propext (laneOf_eq i 1 (by decide) l),
    show (BitVec.ofNat 32 l.val = laneOf i 0#32) = (l.val = 2 * (i 0).val) from propext (laneOf_eq i 0 (by decide) l)]

variable (q : Vec Ideal S1536x3072 .bf16) (A B : Vec Ideal S256x3072 .bf16)

/-- The hidden value at row `r` and output `n` of the point's 256. -/
def hB (r : Fin 1536) (n : Fin 256) : EReal :=
  (∑ x : Fin 3072, q (ix2 r x) * A (ix2 n x)) * Ideal.logistic (∑ x : Fin 3072, q (ix2 r x) * A (ix2 n x))
    * ∑ x : Fin 3072, q (ix2 r x) * B (ix2 n x)

/-- A 448th of the greatest magnitude of half `b` of row `r`. -/
def hBY (r : Fin 1536) (b : Fin 2) : EReal := yOf fun k : Fin 128 => hB q A B r ⟨b.val * 128 + k.val, by omega⟩

/-- The code at row `r` and output `n`. -/
def hBC (r : Fin 1536) (n : Fin 256) : EReal := clip (hB q A B r n * invK (hBY q A B r ⟨n.val / 128, by omega⟩))

/-- The block of codes. -/
def codeBlock : Vec Ideal S1536x256 .fp8e4m3 := fun y => hBC q A B (y 0) (y 1)

/-- The scales, over those found there. -/
def scaleBlock (i : grid0.Coords) (p : Vec Ideal S1536x32 .f32) : Vec Ideal S1536x32 .f32 := fun y =>
  if (y 1).val = 2 * (i 0).val + 1 then scaleK (hBY q A B (y 0) 1)
  else if (y 1).val = 2 * (i 0).val then scaleK (hBY q A B (y 0) 0) else p y

/-- A row and column of a block of 512 rows, in the whole array. -/
theorem rows_emb (o : ℕ) (inb : ∀ a, (![o, 0] : Fin 2 → ℕ) a + S512x3072.size a ≤ S1536x3072.size a) (r : Fin 512) (x : Fin 3072) (ho : o + 512 ≤ 1536) :
    (Rect.unit (s := S1536x3072) ![o, 0] S512x3072.size inb).emb (ix2 r x) = ix2 (⟨o + r.val, by omega⟩ : Fin 1536) x := by
  funext a
  match a with
  | ⟨0, _⟩ => exact Fin.ext (by show o + 1 * r.val = o + r.val; omega)
  | ⟨1, _⟩ => exact Fin.ext (by show 0 + 1 * x.val = x.val; omega)

/-- The hidden block of 512 rows from row `o` on. -/
theorem tile_rows (o : ℕ) (inb : ∀ a, (![o, 0] : Fin 2 → ℕ) a + S512x3072.size a ≤ S1536x3072.size a) (ho : o + 512 ≤ 1536)
    (Q : Vec Ideal S512x3072 .bf16) (hQ : ∀ y, Q y = q ((Rect.unit (s := S1536x3072) ![o, 0] S512x3072.size inb).emb y))
    (r : Fin 512) (l : Fin 256) : tile Q A B (ix2 r l) = hB q A B ⟨o + r.val, by omega⟩ l := by
  rw [tile_apply]
  simp only [hQ, rows_emb o inb _ _ ho]
  rfl

/-- A store of codes of the first half is its block. -/
theorem codes_left (o : ℕ) (inb : ∀ a, (![o, 0] : Fin 2 → ℕ) a + S512x3072.size a ≤ S1536x3072.size a) (ho : o + 512 ≤ 1536)
    (Q : Vec Ideal S512x3072 .bf16) (hQ : ∀ y, Q y = q ((Rect.unit (s := S1536x3072) ![o, 0] S512x3072.size inb).emb y))
    (inb' : ∀ a, (![o, 0] : Fin 2 → ℕ) a + S512x128.size a ≤ S1536x256.size a) (x : S512x128.Idx) :
    halfCodes (left (tile Q A B)) x = codeBlock q A B ((Rect.unit (s := S1536x256) ![o, 0] S512x128.size inb').emb x) := by
  obtain ⟨r, l, rfl⟩ : ∃ r l, x = ix2 r l := ⟨x 0, x 1, by funext a; match a with | ⟨0, _⟩ => rfl | ⟨1, _⟩ => rfl⟩
  have hl := l.isLt
  have hr := r.isLt
  rw [halfCodes_apply]
  simp only [left_apply, tile_rows q A B o inb ho Q hQ]
  show _ = hBC q A B ⟨o + 1 * r.val, _⟩ ⟨0 + 1 * l.val, _⟩
  unfold hBC hBY
  have e : l.val / 128 * 128 = 0 := by omega
  simp only [Nat.zero_add, Nat.one_mul, e]

/-- A store of codes of the second half is its block. -/
theorem codes_right (o : ℕ) (inb : ∀ a, (![o, 0] : Fin 2 → ℕ) a + S512x3072.size a ≤ S1536x3072.size a) (ho : o + 512 ≤ 1536)
    (Q : Vec Ideal S512x3072 .bf16) (hQ : ∀ y, Q y = q ((Rect.unit (s := S1536x3072) ![o, 0] S512x3072.size inb).emb y))
    (inb' : ∀ a, (![o, 128] : Fin 2 → ℕ) a + S512x128.size a ≤ S1536x256.size a) (x : S512x128.Idx) :
    halfCodes (right (tile Q A B)) x = codeBlock q A B ((Rect.unit (s := S1536x256) ![o, 128] S512x128.size inb').emb x) := by
  obtain ⟨r, l, rfl⟩ : ∃ r l, x = ix2 r l := ⟨x 0, x 1, by funext a; match a with | ⟨0, _⟩ => rfl | ⟨1, _⟩ => rfl⟩
  have hl := l.isLt
  have hr := r.isLt
  rw [halfCodes_apply]
  simp only [right_apply, tile_rows q A B o inb ho Q hQ]
  show _ = hBC q A B ⟨o + 1 * r.val, _⟩ ⟨128 + 1 * l.val, _⟩
  unfold hBC hBY
  have e : (128 + l.val) / 128 * 128 = 128 := by omega
  simp only [Nat.one_mul, e]

/-- A store of scales is its block. -/
theorem scales_rows (i : grid0.Coords) (p : Vec Ideal S1536x32 .f32)
    (o : ℕ) (inb : ∀ a, (![o, 0] : Fin 2 → ℕ) a + S512x3072.size a ≤ S1536x3072.size a) (ho : o + 512 ≤ 1536)
    (Q : Vec Ideal S512x3072 .bf16) (hQ : ∀ y, Q y = q ((Rect.unit (s := S1536x3072) ![o, 0] S512x3072.size inb).emb y))
    (inb' : ∀ a, (![o, 0] : Fin 2 → ℕ) a + S512x32.size a ≤ S1536x32.size a)
    (P : Vec Ideal S512x32 .f32) (hP : ∀ y, P y = p ((Rect.unit (s := S1536x32) ![o, 0] S512x32.size inb').emb y)) (x : S512x32.Idx) :
    lanes2 i P (tile Q A B) x = scaleBlock q A B i p ((Rect.unit (s := S1536x32) ![o, 0] S512x32.size inb').emb x) := by
  obtain ⟨r, l, rfl⟩ : ∃ r l, x = ix2 r l := ⟨x 0, x 1, by funext a; match a with | ⟨0, _⟩ => rfl | ⟨1, _⟩ => rfl⟩
  have hl := l.isLt
  have hr := r.isLt
  rw [lanes2_apply, hP]
  simp only [left_apply, right_apply, tile_rows q A B o inb ho Q hQ]
  unfold scaleBlock
  show _ = if 0 + 1 * l.val = _ then scaleK (hBY q A B ⟨o + 1 * r.val, _⟩ 1) else if 0 + 1 * l.val = _ then scaleK (hBY q A B ⟨o + 1 * r.val, _⟩ 0) else _
  unfold hBY
  have e1 : ∀ k : Fin 128, (1 : Fin 2).val * 128 + k.val = 128 + k.val := fun k => by show 1 * 128 + k.val = _; omega
  have e0 : ∀ k : Fin 128, (0 : Fin 2).val * 128 + k.val = k.val := fun k => by show 0 * 128 + k.val = _; omega
  simp only [e1, e0, Nat.zero_add, Nat.one_mul]

/-- After the stores the block of codes reads `codeBlock`. -/
theorem read_codes (v : View sig .tc .vmem S1536x256 .fp8e4m3) (f : BufTy.Contents (Elt Ideal) v.ty) (q0 q1 q2 : Vec Ideal S512x3072 .bf16)
    (h0 : ∀ y, q0 y = q (rows0.emb y)) (h1 : ∀ y, q1 y = q (rows1.emb y)) (h2 : ∀ y, q2 y = q (rows2.emb y)) :
    v.read (Elt Ideal) (v.writes (Elt Ideal) f (codeList q0 q1 q2 A B)) = codeBlock q A B := by
  funext y
  refine View.read_writes_apply_of_pieces _ _ (codeBlock q A B) _ (View.PiecesOf.mem ?_) y (View.cover_of_tiled _ ![512, 128] rfl y)
  exact ⟨codes_right q A B 1024 inb_S1536x3072_S512x3072_1024_0 (by omega) q2 h2 inb_S1536x256_S512x128_1024_128, codes_left q A B 1024 inb_S1536x3072_S512x3072_1024_0 (by omega) q2 h2 inb_S1536x256_S512x128_1024_0, codes_right q A B 512 inb_S1536x3072_S512x3072_512_0 (by omega) q1 h1 inb_S1536x256_S512x128_512_128,
    codes_left q A B 512 inb_S1536x3072_S512x3072_512_0 (by omega) q1 h1 inb_S1536x256_S512x128_512_0, codes_right q A B 0 inb_S1536x3072_S512x3072_0_0 (by omega) q0 h0 inb_S1536x256_S512x128_0_128, codes_left q A B 0 inb_S1536x3072_S512x3072_0_0 (by omega) q0 h0 inb_S1536x256_S512x128_0_0, trivial⟩

/-- After the stores the scales read `scaleBlock` of what was there. -/
theorem read_scales (i : grid0.Coords) (v : View sig .tc .vmem S1536x32 .f32) (f : BufTy.Contents (Elt Ideal) v.ty) (q0 q1 q2 : Vec Ideal S512x3072 .bf16)
    (h0 : ∀ y, q0 y = q (rows0.emb y)) (h1 : ∀ y, q1 y = q (rows1.emb y)) (h2 : ∀ y, q2 y = q (rows2.emb y)) :
    v.read (Elt Ideal) (v.writes (Elt Ideal) f (scaleList i (View.readAt (Elt Ideal) v srows0.toLoadRect f)
      (View.readAt (Elt Ideal) v srows1.toLoadRect f) (View.readAt (Elt Ideal) v srows2.toLoadRect f) q0 q1 q2 A B))
      = scaleBlock q A B i (v.read (Elt Ideal) f) := by
  funext y
  refine View.read_writes_apply_of_pieces _ _ (scaleBlock q A B i (v.read (Elt Ideal) f)) _ (View.PiecesOf.mem ?_) y
    (View.cover_of_tiled _ ![512, 32] rfl y)
  exact ⟨scales_rows q A B i _ 1024 inb_S1536x3072_S512x3072_1024_0 (by omega) q2 h2 inb_S1536x32_S512x32_1024_0 _ fun _ => rfl, scales_rows q A B i _ 512 inb_S1536x3072_S512x3072_512_0 (by omega) q1 h1 inb_S1536x32_S512x32_512_0 _ fun _ => rfl,
    scales_rows q A B i _ 0 inb_S1536x3072_S512x3072_0_0 (by omega) q0 h0 inb_S1536x32_S512x32_0_0 _ fun _ => rfl, trivial⟩

/-- The gate weights the products read are the dequantised gate block. -/
theorem v1063_eq (i : grid0.Coords) (arg1 : Memref sig .tc .smem S64x24 .f32) (arg3 : Memref sig .tc .vmem S256x3072 .fp8e4m3)
    (arg10 : Memref sig .tc .vmem S256x3072 .bf16) (f1 : BufTy.Contents (Elt Ideal) arg1.view.ty) (f3 : BufTy.Contents (Elt Ideal) arg3.view.ty)
    (h : (i 0).val < 16) :
    runB.sl.v1063 i arg1 arg3 arg10 f1 f3 = wG (0 + 2 * (i 0).val) (by omega) (arg3.view.read (Elt Ideal) f3) (arg1.view.read (Elt Ideal) f1) := by
  unfold runB.sl.v1063
  rw [View.readCov_eq_canon']
  funext y
  refine (View.canon_apply_of_pieces _ _ (runB_H10_48 i arg1 arg3 f1 f3 h).mem _ (View.cover_of_tiled _ ![128, 128] rfl _)).trans ?_
  refine congrArg _ (funext fun a => Fin.ext ?_)
  match a with
  | ⟨0, _⟩ => show 0 + 1 * (y 0).val = (y 0).val; omega
  | ⟨1, _⟩ => show 0 + 1 * (y 1).val = (y 1).val; omega

/-- The up weights the products read are the dequantised up block. -/
theorem v1065_eq (i : grid0.Coords) (arg1 : Memref sig .tc .smem S64x24 .f32) (arg4 : Memref sig .tc .vmem S256x3072 .fp8e4m3)
    (arg11 : Memref sig .tc .vmem S256x3072 .bf16) (f1 : BufTy.Contents (Elt Ideal) arg1.view.ty) (f4 : BufTy.Contents (Elt Ideal) arg4.view.ty)
    (h : (i 0).val < 16) :
    runB.sl.v1065 i arg1 arg4 arg11 f1 f4 = wG (32 + 2 * (i 0).val) (by omega) (arg4.view.read (Elt Ideal) f4) (arg1.view.read (Elt Ideal) f1) := by
  unfold runB.sl.v1065
  rw [View.readCov_eq_canon']
  funext y
  refine (View.canon_apply_of_pieces _ _ (runB_H11_48 i arg1 arg4 f1 f4 h).mem _ (View.cover_of_tiled _ ![128, 128] rfl _)).trans ?_
  refine congrArg _ (funext fun a => Fin.ext ?_)
  match a with
  | ⟨0, _⟩ => show 0 + 1 * (y 0).val = (y 0).val; omega
  | ⟨1, _⟩ => show 0 + 1 * (y 1).val = (y 1).val; omega

end Cert.KernelIdeal.Gen
end
-- ==== Proof.XLists.lean ====
module

public import proofs.«01_k».proof.Proof.Quant
public import proofs.«01_k».proof.Proof.Gen.KernelIdeal.Loops

@[expose] public section

set_option maxRecDepth 16384

noncomputable section

/-! What one trip of the loop over the activations stores: the codes, the scales and the quantised values of 128 rows, group
by group. -/

namespace Cert.KernelIdeal.Gen

open Idealize.ShloMosaic Idealize.ShloMosaic.TcCoe
open Cert.Scale Cert.Val

variable {F : FTy → Type} [FloatOps F]

/-- The exponent words of one group of activations. -/
def xExpo (v : Vec F S128x128 .bf16) : IVec S128x1 32 :=
  expo128 (extf .f32 (absf (shapeCast S128x128 v shapeCasts_S128x128_S128x128 : FVec F S128x128 .bf16)) bitsLt_bf16_f32)

/-- The codes of one group of activations. -/
def xCodes (v : Vec F S128x128 .bf16) : FVec F S128x128 .fp8e4m3 :=
  codes128 (extf .f32 (shapeCast S128x128 v shapeCasts_S128x128_S128x128 : FVec F S128x128 .bf16) bitsLt_bf16_f32) (xExpo v)

/-- The scales of one group of activations. -/
def xScale (v : Vec F S128x128 .bf16) : FVec F S128x1 .f32 := scale128 (xExpo v)

/-- The quantised values of one group of activations: codes times scales. -/
def xQuant (v : Vec F S128x128 .bf16) : FVec F S128x128 .bf16 :=
  shapeCast S128x128 (mulf (extf .bf16 (xCodes v) bitsLt_fp8e4m3_bf16)
    (broadcastTo S128x128 (truncf .bf16 (xScale v) bitsLt_bf16_f32) broadcasts_S128x1_S128x128)) shapeCasts_S128x128_S128x128

/-- The lane numbers of 24. -/
def lanes24 : IVec S128x24 32 := iota .tc S128x24 32 [1] iota_S128x24_d1_w32

/-- A column of scales written into lane `w` of 24, the other lanes kept. -/
def lane24 (w : BitVec 32) (prev : FVec F S128x24 .f32) (s : FVec F S128x1 .f32) : FVec F S128x24 .f32 :=
  select (cmpi .eq lanes24 (broadcast S128x24 w)) (broadcastTo S128x24 (shapeCast S128x1 s shapeCasts_S128x1_S128x1) broadcasts_S128x1_S128x24) prev

/-- After the lane write, lane `l` holds the scale of its row when `l` is the written lane, else what was there. -/
theorem lane24_apply (w : BitVec 32) (prev : FVec Ideal S128x24 .f32) (s : FVec Ideal S128x1 .f32) (r : Fin 128) (l : Fin 24) :
    lane24 w prev s (ix2 r l) = if BitVec.ofNat 32 l.val = w then s (ix2 r 0) else prev (ix2 r l) := by
  pointwise [lane24, lanes24]
  by_cases h : BitVec.ofNat 32 l.val = w
  · rw [if_pos h, h]
    exact if_pos (by simp [IntOp.cmpi])
  · rw [if_neg h]
    refine if_neg ?_
    show ¬ BitVec.ofBool (BitVec.ofNat 32 l.val == w) = 1#1
    rw [beq_eq_false_iff_ne.mpr h]
    decide

/-- No scales yet. -/
def zero24 : FVec F S128x24 .f32 := broadcast S128x24 (Scalar.ofBits .f32 0x00000000#32)

/-- The group of activations a rectangle of the array holds. -/
abbrev xAt (arg2 : Memref sig .tc .vmem S1536x3072 .bf16) (X : BufTy.Contents (Elt F) arg2.view.ty) (o : Fin 2 → ℕ)
    (h : ∀ a, o a + S128x128.size a ≤ S1536x3072.size a) : Vec F S128x128 .bf16 :=
  View.readAt (Elt F) arg2.view (Rect.unit (s := S1536x3072) o S128x128.size h).toLoadRect X

/-- The store of a group's codes. -/
def pieceC (arg2 : Memref sig .tc .vmem S1536x3072 .bf16) (X : BufTy.Contents (Elt F) arg2.view.ty) (o : Fin 2 → ℕ)
    (h : ∀ a, o a + S128x128.size a ≤ S1536x3072.size a) : View.Piece (Elt F) S1536x3072 .fp8e4m3 :=
  ⟨Rect.unit o S128x128.size h, xCodes (xAt arg2 X o h)⟩

/-- The store of a group's quantised values. -/
def pieceQ (arg2 : Memref sig .tc .vmem S1536x3072 .bf16) (X : BufTy.Contents (Elt F) arg2.view.ty) (o : Fin 2 → ℕ)
    (h : ∀ a, o a + S128x128.size a ≤ S1536x3072.size a) : View.Piece (Elt F) S1536x3072 .bf16 :=
  ⟨Rect.unit o S128x128.size h, xQuant (xAt arg2 X o h)⟩

/-- The codes a trip stores. -/
def xListC (i : grid0.Coords) (arg2 : Memref sig .tc .vmem S1536x3072 .bf16) (k0_h1 : k0_cond1 i = 1#1) (X_arg2 : BufTy.Contents (Elt F) arg2.view.ty) (k : Fin k0_t1_loop.trips) : List (View.Piece (Elt F) S1536x3072 .fp8e4m3) :=
    [pieceC arg2 X_arg2 (k0_off24 k) (k0_off24_inb i k k0_h1),
      pieceC arg2 X_arg2 (k0_off23 k) (k0_off23_inb i k k0_h1),
      pieceC arg2 X_arg2 (k0_off22 k) (k0_off22_inb i k k0_h1),
      pieceC arg2 X_arg2 (k0_off21 k) (k0_off21_inb i k k0_h1),
      pieceC arg2 X_arg2 (k0_off20 k) (k0_off20_inb i k k0_h1),
      pieceC arg2 X_arg2 (k0_off19 k) (k0_off19_inb i k k0_h1),
      pieceC arg2 X_arg2 (k0_off18 k) (k0_off18_inb i k k0_h1),
      pieceC arg2 X_arg2 (k0_off17 k) (k0_off17_inb i k k0_h1),
      pieceC arg2 X_arg2 (k0_off16 k) (k0_off16_inb i k k0_h1),
      pieceC arg2 X_arg2 (k0_off15 k) (k0_off15_inb i k k0_h1),
      pieceC arg2 X_arg2 (k0_off14 k) (k0_off14_inb i k k0_h1),
      pieceC arg2 X_arg2 (k0_off13 k) (k0_off13_inb i k k0_h1),
      pieceC arg2 X_arg2 (k0_off12 k) (k0_off12_inb i k k0_h1),
      pieceC arg2 X_arg2 (k0_off11 k) (k0_off11_inb i k k0_h1),
      pieceC arg2 X_arg2 (k0_off10 k) (k0_off10_inb i k k0_h1),
      pieceC arg2 X_arg2 (k0_off9 k) (k0_off9_inb i k k0_h1),
      pieceC arg2 X_arg2 (k0_off8 k) (k0_off8_inb i k k0_h1),
      pieceC arg2 X_arg2 (k0_off7 k) (k0_off7_inb i k k0_h1),
      pieceC arg2 X_arg2 (k0_off6 k) (k0_off6_inb i k k0_h1),
      pieceC arg2 X_arg2 (k0_off5 k) (k0_off5_inb i k k0_h1),
      pieceC arg2 X_arg2 (k0_off4 k) (k0_off4_inb i k k0_h1),
      pieceC arg2 X_arg2 (k0_off3 k) (k0_off3_inb i k k0_h1),
      pieceC arg2 X_arg2 (k0_off2 k) (k0_off2_inb i k k0_h1),
      pieceC arg2 X_arg2 (k0_off1 k) (k0_off1_inb i k k0_h1)]

/-- The quantised values a trip stores. -/
def xListQ (i : grid0.Coords) (arg2 : Memref sig .tc .vmem S1536x3072 .bf16) (k0_h1 : k0_cond1 i = 1#1) (X_arg2 : BufTy.Contents (Elt F) arg2.view.ty) (k : Fin k0_t1_loop.trips) : List (View.Piece (Elt F) S1536x3072 .bf16) :=
    [pieceQ arg2 X_arg2 (k0_off24 k) (k0_off24_inb i k k0_h1),
      pieceQ arg2 X_arg2 (k0_off23 k) (k0_off23_inb i k k0_h1),
      pieceQ arg2 X_arg2 (k0_off22 k) (k0_off22_inb i k k0_h1),
      pieceQ arg2 X_arg2 (k0_off21 k) (k0_off21_inb i k k0_h1),
      pieceQ arg2 X_arg2 (k0_off20 k) (k0_off20_inb i k k0_h1),
      pieceQ arg2 X_arg2 (k0_off19 k) (k0_off19_inb i k k0_h1),
      pieceQ arg2 X_arg2 (k0_off18 k) (k0_off18_inb i k k0_h1),
      pieceQ arg2 X_arg2 (k0_off17 k) (k0_off17_inb i k k0_h1),
      pieceQ arg2 X_arg2 (k0_off16 k) (k0_off16_inb i k k0_h1),
      pieceQ arg2 X_arg2 (k0_off15 k) (k0_off15_inb i k k0_h1),
      pieceQ arg2 X_arg2 (k0_off14 k) (k0_off14_inb i k k0_h1),
      pieceQ arg2 X_arg2 (k0_off13 k) (k0_off13_inb i k k0_h1),
      pieceQ arg2 X_arg2 (k0_off12 k) (k0_off12_inb i k k0_h1),
      pieceQ arg2 X_arg2 (k0_off11 k) (k0_off11_inb i k k0_h1),
      pieceQ arg2 X_arg2 (k0_off10 k) (k0_off10_inb i k k0_h1),
      pieceQ arg2 X_arg2 (k0_off9 k) (k0_off9_inb i k k0_h1),
      pieceQ arg2 X_arg2 (k0_off8 k) (k0_off8_inb i k k0_h1),
      pieceQ arg2 X_arg2 (k0_off7 k) (k0_off7_inb i k k0_h1),
      pieceQ arg2 X_arg2 (k0_off6 k) (k0_off6_inb i k k0_h1),
      pieceQ arg2 X_arg2 (k0_off5 k) (k0_off5_inb i k k0_h1),
      pieceQ arg2 X_arg2 (k0_off4 k) (k0_off4_inb i k k0_h1),
      pieceQ arg2 X_arg2 (k0_off3 k) (k0_off3_inb i k k0_h1),
      pieceQ arg2 X_arg2 (k0_off2 k) (k0_off2_inb i k k0_h1),
      pieceQ arg2 X_arg2 (k0_off1 k) (k0_off1_inb i k k0_h1)]

/-- The scales of 128 rows, the 24 groups one after the other. -/
def xScales (i : grid0.Coords) (arg2 : Memref sig .tc .vmem S1536x3072 .bf16) (k0_h1 : k0_cond1 i = 1#1) (X_arg2 : BufTy.Contents (Elt F) arg2.view.ty) (k : Fin k0_t1_loop.trips) : FVec F S128x24 .f32 :=
    lane24 23#32 (lane24 22#32 (lane24 21#32 (lane24 20#32 (lane24 19#32 (lane24 18#32 (lane24 17#32 (lane24 16#32 (lane24 15#32 (lane24 14#32 (lane24 13#32 (lane24 12#32 (lane24 11#32 (lane24 10#32 (lane24 9#32 (lane24 8#32 (lane24 7#32 (lane24 6#32 (lane24 5#32 (lane24 4#32 (lane24 3#32 (lane24 2#32 (lane24 1#32 (lane24 0#32 zero24 (xScale (xAt arg2 X_arg2 (k0_off1 k) (k0_off1_inb i k k0_h1))))
      (xScale (xAt arg2 X_arg2 (k0_off2 k) (k0_off2_inb i k k0_h1))))
      (xScale (xAt arg2 X_arg2 (k0_off3 k) (k0_off3_inb i k k0_h1))))
      (xScale (xAt arg2 X_arg2 (k0_off4 k) (k0_off4_inb i k k0_h1))))
      (xScale (xAt arg2 X_arg2 (k0_off5 k) (k0_off5_inb i k k0_h1))))
      (xScale (xAt arg2 X_arg2 (k0_off6 k) (k0_off6_inb i k k0_h1))))
      (xScale (xAt arg2 X_arg2 (k0_off7 k) (k0_off7_inb i k k0_h1))))
      (xScale (xAt arg2 X_arg2 (k0_off8 k) (k0_off8_inb i k k0_h1))))
      (xScale (xAt arg2 X_arg2 (k0_off9 k) (k0_off9_inb i k k0_h1))))
      (xScale (xAt arg2 X_arg2 (k0_off10 k) (k0_off10_inb i k k0_h1))))
      (xScale (xAt arg2 X_arg2 (k0_off11 k) (k0_off11_inb i k k0_h1))))
      (xScale (xAt arg2 X_arg2 (k0_off12 k) (k0_off12_inb i k k0_h1))))
      (xScale (xAt arg2 X_arg2 (k0_off13 k) (k0_off13_inb i k k0_h1))))
      (xScale (xAt arg2 X_arg2 (k0_off14 k) (k0_off14_inb i k k0_h1))))
      (xScale (xAt arg2 X_arg2 (k0_off15 k) (k0_off15_inb i k k0_h1))))
      (xScale (xAt arg2 X_arg2 (k0_off16 k) (k0_off16_inb i k k0_h1))))
      (xScale (xAt arg2 X_arg2 (k0_off17 k) (k0_off17_inb i k k0_h1))))
      (xScale (xAt arg2 X_arg2 (k0_off18 k) (k0_off18_inb i k k0_h1))))
      (xScale (xAt arg2 X_arg2 (k0_off19 k) (k0_off19_inb i k k0_h1))))
      (xScale (xAt arg2 X_arg2 (k0_off20 k) (k0_off20_inb i k k0_h1))))
      (xScale (xAt arg2 X_arg2 (k0_off21 k) (k0_off21_inb i k k0_h1))))
      (xScale (xAt arg2 X_arg2 (k0_off22 k) (k0_off22_inb i k k0_h1))))
      (xScale (xAt arg2 X_arg2 (k0_off23 k) (k0_off23_inb i k k0_h1))))
      (xScale (xAt arg2 X_arg2 (k0_off24 k) (k0_off24_inb i k k0_h1)))

/-- The three lists of a trip. -/
theorem trip_lists (𝒱 : Variants) (c : Dev nD) (bd : Option 𝒱.V) (i : grid0.Coords) (arg1 : Memref sig .tc .smem S64x24 .f32) (harg1 : arg1.IsWhole) (arg2 : Memref sig .tc .vmem S1536x3072 .bf16) (harg2 : arg2.IsWhole) (arg3 : Memref sig .tc .vmem S256x3072 .fp8e4m3) (harg3 : arg3.IsWhole) (arg4 : Memref sig .tc .vmem S256x3072 .fp8e4m3) (harg4 : arg4.IsWhole) (arg5 : Memref sig .tc .vmem S1536x256 .fp8e4m3) (harg5 : arg5.IsWhole) (arg6 : Memref sig .tc .vmem S1536x32 .f32) (harg6 : arg6.IsWhole) (arg7 : Memref sig .tc .vmem S1536x3072 .fp8e4m3) (harg7 : arg7.IsWhole) (arg8 : Memref sig .tc .vmem S1536x24 .f32) (harg8 : arg8.IsWhole) (arg9 : Memref sig .tc .vmem S1536x3072 .bf16) (harg9 : arg9.IsWhole) (arg10 : Memref sig .tc .vmem S256x3072 .bf16) (harg10 : arg10.IsWhole) (arg11 : Memref sig .tc .vmem S256x3072 .bf16) (harg11 : arg11.IsWhole) (k0_h1 : k0_cond1 i = 1#1) (X_arg2 : BufTy.Contents (Elt F) arg2.view.ty) (k : Fin k0_t1_loop.trips) :
    (trip_k0_t1 𝒱 c bd i arg1 harg1 arg2 harg2 arg3 harg3 arg4 harg4 arg5 harg5 arg6 harg6 arg7 harg7 arg8 harg8 arg9 harg9 arg10 harg10 arg11 harg11 k0_h1 X_arg2 k).1 = xListC i arg2 k0_h1 X_arg2 k
    ∧ (trip_k0_t1 𝒱 c bd i arg1 harg1 arg2 harg2 arg3 harg3 arg4 harg4 arg5 harg5 arg6 harg6 arg7 harg7 arg8 harg8 arg9 harg9 arg10 harg10 arg11 harg11 k0_h1 X_arg2 k).2.1 = [⟨Rect.unit (k0_off25 k) S128x24.size (k0_off25_inb i k k0_h1), xScales i arg2 k0_h1 X_arg2 k⟩]
    ∧ (trip_k0_t1 𝒱 c bd i arg1 harg1 arg2 harg2 arg3 harg3 arg4 harg4 arg5 harg5 arg6 harg6 arg7 harg7 arg8 harg8 arg9 harg9 arg10 harg10 arg11 harg11 k0_h1 X_arg2 k).2.2.1 = xListQ i arg2 k0_h1 X_arg2 k := by
  unfold trip_k0_t1
  exact ⟨rfl, rfl, rfl⟩

end Cert.KernelIdeal.Gen
end
-- ==== Proof.XVals.lean ====
module

public import proofs.«01_k».proof.Proof.XLists
public import Idealize.ShloMosaic.Lib.Pipeline.ReadBack

@[expose] public section

set_option maxRecDepth 16384

noncomputable section

/-! What the loop over the activations leaves: the codes, the scales and the quantised values of every row. -/

namespace Cert.KernelIdeal.Gen

open Idealize.ShloMosaic Idealize.ShloMosaic.TcCoe
open Cert.Scale Cert.Val

/-- The exponent word of each row of a group. -/
theorem xExpo_apply (v : Vec Ideal S128x128 .bf16) (r : Fin 128) : xExpo v (ix2 r 0) = expWord (yOf fun k => v (ix2 r k)) := by
  unfold xExpo
  rw [expo128_apply, shapeCast_self]
  rfl

/-- The codes of a group, value by value. -/
theorem xCodes_apply (v : Vec Ideal S128x128 .bf16) (r l : Fin 128) :
    xCodes v (ix2 r l) = clip (v (ix2 r l) * invK (yOf fun k => v (ix2 r k))) := by
  unfold xCodes
  rw [codes128_apply, xExpo_apply, shapeCast_self]
  rfl

/-- The scale of each row of a group. -/
theorem xScale_apply (v : Vec Ideal S128x128 .bf16) (r : Fin 128) : xScale v (ix2 r 0) = scaleK (yOf fun k => v (ix2 r k)) := by
  unfold xScale
  rw [scale128_apply, xExpo_apply]
  rfl

/-- Codes times scales, value by value. -/
theorem quant_apply (C : FVec Ideal S128x128 .fp8e4m3) (s : FVec Ideal S128x1 .f32) (r l : Fin 128) :
    (shapeCast S128x128 (mulf (extf .bf16 C bitsLt_fp8e4m3_bf16 : FVec Ideal S128x128 .bf16)
      (broadcastTo S128x128 (truncf .bf16 s bitsLt_bf16_f32 : FVec Ideal S128x1 .bf16) broadcasts_S128x1_S128x128)) shapeCasts_S128x128_S128x128
      : FVec Ideal S128x128 .bf16) (ix2 r l) = C (ix2 r l) * s (ix2 r 0) := by
  pointwise []

/-- The quantised values of a group, value by value. -/
theorem xQuant_apply (v : Vec Ideal S128x128 .bf16) (r l : Fin 128) :
    xQuant v (ix2 r l) = clip (v (ix2 r l) * invK (yOf fun k => v (ix2 r k))) * scaleK (yOf fun k => v (ix2 r k)) := by
  unfold xQuant
  rw [quant_apply, xCodes_apply, xScale_apply]

/-- The activations by row and column. -/
abbrev rowsX (x : Vec Ideal S1536x3072 .bf16) : Fin 1536 → Fin 3072 → EReal := fun r d => x (ix2 r d)

/-- All codes, all scales, all quantised values of the activations `x`. -/
def allC (x : Vec Ideal S1536x3072 .bf16) : Vec Ideal S1536x3072 .fp8e4m3 := fun y => xC (rowsX x) (y 0) (y 1)
/-- All scales of the activations `x`. -/
def allS (x : Vec Ideal S1536x3072 .bf16) : Vec Ideal S1536x24 .f32 := fun y => xS (rowsX x) (y 0) (y 1)
/-- All quantised values of the activations `x`. -/
def allQ (x : Vec Ideal S1536x3072 .bf16) : Vec Ideal S1536x3072 .bf16 := fun y => xQ (rowsX x) (y 0) (y 1)

section
variable (arg2 : Memref sig .tc .vmem S1536x3072 .bf16) (X : BufTy.Contents (Elt Ideal) arg2.view.ty) (o : Fin 2 → ℕ)
  (h : ∀ a, o a + S128x128.size a ≤ S1536x3072.size a) (k g : ℕ) (hk : k < 12) (hg : g < 24) (e : o = ![128 * k, 128 * g])
include hk hg e

/-- The value at one place of group `g` of the 128 rows from row `128 k` on. -/
theorem xAt_apply (r l : Fin 128) :
    xAt arg2 X o h (ix2 r l) = rowsX (arg2.view.read (Elt Ideal) X) ⟨128 * k + r.val, by omega⟩ (col ⟨g, hg⟩ l) := by
  subst e
  show arg2.view.read (Elt Ideal) X ((Rect.unit (s := S1536x3072) ![128 * k, 128 * g] S128x128.size h).emb (ix2 r l)) = _
  refine congrArg _ (funext fun a => Fin.ext ?_)
  match a with
  | ⟨0, _⟩ => show 128 * k + 1 * r.val = 128 * k + r.val; omega
  | ⟨1, _⟩ => show 128 * g + 1 * l.val = g * 128 + l.val; omega

/-- The scale of a row of a group. -/
theorem xScale_at (r : Fin 128) :
    xScale (xAt arg2 X o h) (ix2 r 0) = xS (rowsX (arg2.view.read (Elt Ideal) X)) ⟨128 * k + r.val, by omega⟩ ⟨g, hg⟩ := by
  rw [xScale_apply]
  simp only [xAt_apply arg2 X o h k g hk hg e]
  rfl

/-- The store of a group's codes is its block of all codes. -/
theorem pieceC_apply (x : (pieceC arg2 X o h).1.shape.Idx) :
    (pieceC arg2 X o h).2 x = allC (arg2.view.read (Elt Ideal) X) ((pieceC arg2 X o h).1.emb x) := by
  obtain ⟨r, l, rfl⟩ : ∃ r l : Fin 128, x = ix2 r l := ⟨x 0, x 1, by funext a; match a with | ⟨0, _⟩ => rfl | ⟨1, _⟩ => rfl⟩
  show xCodes (xAt arg2 X o h) (ix2 r l) = _
  rw [xCodes_apply]
  simp only [xAt_apply arg2 X o h k g hk hg e]
  subst e
  have hr := r.isLt
  have hl := l.isLt
  show _ = xC _ ⟨128 * k + 1 * r.val, _⟩ ⟨128 * g + 1 * l.val, _⟩
  have e1 : (⟨128 * g + 1 * l.val, by omega⟩ : Fin 3072) = col ⟨g, hg⟩ l := Fin.ext (by show 128 * g + 1 * l.val = g * 128 + l.val; omega)
  have e0 : (⟨128 * k + 1 * r.val, by omega⟩ : Fin 1536) = ⟨128 * k + r.val, by omega⟩ := Fin.ext (by show 128 * k + 1 * r.val = 128 * k + r.val; omega)
  rw [e1, e0]
  unfold xC xY
  rw [grp_col]

/-- The store of a group's quantised values is its block of all quantised values. -/
theorem pieceQ_apply (x : (pieceQ arg2 X o h).1.shape.Idx) :
    (pieceQ arg2 X o h).2 x = allQ (arg2.view.read (Elt Ideal) X) ((pieceQ arg2 X o h).1.emb x) := by
  obtain ⟨r, l, rfl⟩ : ∃ r l : Fin 128, x = ix2 r l := ⟨x 0, x 1, by funext a; match a with | ⟨0, _⟩ => rfl | ⟨1, _⟩ => rfl⟩
  show xQuant (xAt arg2 X o h) (ix2 r l) = _
  rw [xQuant_apply]
  simp only [xAt_apply arg2 X o h k g hk hg e]
  subst e
  have hr := r.isLt
  have hl := l.isLt
  show _ = xQ _ ⟨128 * k + 1 * r.val, _⟩ ⟨128 * g + 1 * l.val, _⟩
  have e1 : (⟨128 * g + 1 * l.val, by omega⟩ : Fin 3072) = col ⟨g, hg⟩ l := Fin.ext (by show 128 * g + 1 * l.val = g * 128 + l.val; omega)
  have e0 : (⟨128 * k + 1 * r.val, by omega⟩ : Fin 1536) = ⟨128 * k + r.val, by omega⟩ := Fin.ext (by show 128 * k + 1 * r.val = 128 * k + r.val; omega)
  rw [e1, e0]
  unfold xQ xC xS xY
  rw [grp_col]

end

/-- A lane write extends the lanes already right by one. -/
theorem lane24_step (T : Fin 128 → Fin 24 → EReal) (n : ℕ) (hn : n < 24) (prev : FVec Ideal S128x24 .f32) (s : FVec Ideal S128x1 .f32)
    (hp : ∀ (r : Fin 128) (l : Fin 24), l.val < n → prev (ix2 r l) = T r l) (hs : ∀ r : Fin 128, s (ix2 r 0) = T r ⟨n, hn⟩)
    (r : Fin 128) (l : Fin 24) (hl : l.val < n + 1) : lane24 (BitVec.ofNat 32 n) prev s (ix2 r l) = T r l := by
  have hl' := l.isLt
  rw [lane24_apply]
  by_cases e : l.val = n
  · rw [if_pos (by rw [e]), hs]
    exact congrArg (T r) (Fin.ext e.symm)
  · rw [if_neg, hp r l (by omega)]
    intro hc
    have := congrArg BitVec.toNat hc
    simp only [BitVec.toNat_ofNat] at this
    omega

section
variable (i : grid0.Coords) (arg2 : Memref sig .tc .vmem S1536x3072 .bf16) (h1 : k0_cond1 i = 1#1)
  (X : BufTy.Contents (Elt Ideal) arg2.view.ty) (k : Fin k0_t1_loop.trips)

/-- The loop takes twelve trips. -/
theorem trip_lt : k.val < 12 := Nat.lt_of_lt_of_le k.isLt k0_t1_abs.2.1

/-- The codes of a trip are blocks of all codes. -/
theorem xListC_of : View.PiecesOf (allC (arg2.view.read (Elt Ideal) X)) (xListC i arg2 h1 X k) :=
  ⟨pieceC_apply arg2 X (k0_off24 k) (k0_off24_inb i k h1) k.val 23 (trip_lt k) (by decide) (k0_off24_eq k),
    pieceC_apply arg2 X (k0_off23 k) (k0_off23_inb i k h1) k.val 22 (trip_lt k) (by decide) (k0_off23_eq k),
    pieceC_apply arg2 X (k0_off22 k) (k0_off22_inb i k h1) k.val 21 (trip_lt k) (by decide) (k0_off22_eq k),
    pieceC_apply arg2 X (k0_off21 k) (k0_off21_inb i k h1) k.val 20 (trip_lt k) (by decide) (k0_off21_eq k),
    pieceC_apply arg2 X (k0_off20 k) (k0_off20_inb i k h1) k.val 19 (trip_lt k) (by decide) (k0_off20_eq k),
    pieceC_apply arg2 X (k0_off19 k) (k0_off19_inb i k h1) k.val 18 (trip_lt k) (by decide) (k0_off19_eq k),
    pieceC_apply arg2 X (k0_off18 k) (k0_off18_inb i k h1) k.val 17 (trip_lt k) (by decide) (k0_off18_eq k),
    pieceC_apply arg2 X (k0_off17 k) (k0_off17_inb i k h1) k.val 16 (trip_lt k) (by decide) (k0_off17_eq k),
    pieceC_apply arg2 X (k0_off16 k) (k0_off16_inb i k h1) k.val 15 (trip_lt k) (by decide) (k0_off16_eq k),
    pieceC_apply arg2 X (k0_off15 k) (k0_off15_inb i k h1) k.val 14 (trip_lt k) (by decide) (k0_off15_eq k),
    pieceC_apply arg2 X (k0_off14 k) (k0_off14_inb i k h1) k.val 13 (trip_lt k) (by decide) (k0_off14_eq k),
    pieceC_apply arg2 X (k0_off13 k) (k0_off13_inb i k h1) k.val 12 (trip_lt k) (by decide) (k0_off13_eq k),
    pieceC_apply arg2 X (k0_off12 k) (k0_off12_inb i k h1) k.val 11 (trip_lt k) (by decide) (k0_off12_eq k),
    pieceC_apply arg2 X (k0_off11 k) (k0_off11_inb i k h1) k.val 10 (trip_lt k) (by decide) (k0_off11_eq k),
    pieceC_apply arg2 X (k0_off10 k) (k0_off10_inb i k h1) k.val 9 (trip_lt k) (by decide) (k0_off10_eq k),
    pieceC_apply arg2 X (k0_off9 k) (k0_off9_inb i k h1) k.val 8 (trip_lt k) (by decide) (k0_off9_eq k),
    pieceC_apply arg2 X (k0_off8 k) (k0_off8_inb i k h1) k.val 7 (trip_lt k) (by decide) (k0_off8_eq k),
    pieceC_apply arg2 X (k0_off7 k) (k0_off7_inb i k h1) k.val 6 (trip_lt k) (by decide) (k0_off7_eq k),
    pieceC_apply arg2 X (k0_off6 k) (k0_off6_inb i k h1) k.val 5 (trip_lt k) (by decide) (k0_off6_eq k),
    pieceC_apply arg2 X (k0_off5 k) (k0_off5_inb i k h1) k.val 4 (trip_lt k) (by decide) (k0_off5_eq k),
    pieceC_apply arg2 X (k0_off4 k) (k0_off4_inb i k h1) k.val 3 (trip_lt k) (by decide) (k0_off4_eq k),
    pieceC_apply arg2 X (k0_off3 k) (k0_off3_inb i k h1) k.val 2 (trip_lt k) (by decide) (k0_off3_eq k),
    pieceC_apply arg2 X (k0_off2 k) (k0_off2_inb i k h1) k.val 1 (trip_lt k) (by decide) (k0_off2_eq k),
    pieceC_apply arg2 X (k0_off1 k) (k0_off1_inb i k h1) k.val 0 (trip_lt k) (by decide) (k0_off1_eq k), trivial⟩

/-- The quantised values of a trip are blocks of all quantised values. -/
theorem xListQ_of : View.PiecesOf (allQ (arg2.view.read (Elt Ideal) X)) (xListQ i arg2 h1 X k) :=
  ⟨pieceQ_apply arg2 X (k0_off24 k) (k0_off24_inb i k h1) k.val 23 (trip_lt k) (by decide) (k0_off24_eq k),
    pieceQ_apply arg2 X (k0_off23 k) (k0_off23_inb i k h1) k.val 22 (trip_lt k) (by decide) (k0_off23_eq k),
    pieceQ_apply arg2 X (k0_off22 k) (k0_off22_inb i k h1) k.val 21 (trip_lt k) (by decide) (k0_off22_eq k),
    pieceQ_apply arg2 X (k0_off21 k) (k0_off21_inb i k h1) k.val 20 (trip_lt k) (by decide) (k0_off21_eq k),
    pieceQ_apply arg2 X (k0_off20 k) (k0_off20_inb i k h1) k.val 19 (trip_lt k) (by decide) (k0_off20_eq k),
    pieceQ_apply arg2 X (k0_off19 k) (k0_off19_inb i k h1) k.val 18 (trip_lt k) (by decide) (k0_off19_eq k),
    pieceQ_apply arg2 X (k0_off18 k) (k0_off18_inb i k h1) k.val 17 (trip_lt k) (by decide) (k0_off18_eq k),
    pieceQ_apply arg2 X (k0_off17 k) (k0_off17_inb i k h1) k.val 16 (trip_lt k) (by decide) (k0_off17_eq k),
    pieceQ_apply arg2 X (k0_off16 k) (k0_off16_inb i k h1) k.val 15 (trip_lt k) (by decide) (k0_off16_eq k),
    pieceQ_apply arg2 X (k0_off15 k) (k0_off15_inb i k h1) k.val 14 (trip_lt k) (by decide) (k0_off15_eq k),
    pieceQ_apply arg2 X (k0_off14 k) (k0_off14_inb i k h1) k.val 13 (trip_lt k) (by decide) (k0_off14_eq k),
    pieceQ_apply arg2 X (k0_off13 k) (k0_off13_inb i k h1) k.val 12 (trip_lt k) (by decide) (k0_off13_eq k),
    pieceQ_apply arg2 X (k0_off12 k) (k0_off12_inb i k h1) k.val 11 (trip_lt k) (by decide) (k0_off12_eq k),
    pieceQ_apply arg2 X (k0_off11 k) (k0_off11_inb i k h1) k.val 10 (trip_lt k) (by decide) (k0_off11_eq k),
    pieceQ_apply arg2 X (k0_off10 k) (k0_off10_inb i k h1) k.val 9 (trip_lt k) (by decide) (k0_off10_eq k),
    pieceQ_apply arg2 X (k0_off9 k) (k0_off9_inb i k h1) k.val 8 (trip_lt k) (by decide) (k0_off9_eq k),
    pieceQ_apply arg2 X (k0_off8 k) (k0_off8_inb i k h1) k.val 7 (trip_lt k) (by decide) (k0_off8_eq k),
    pieceQ_apply arg2 X (k0_off7 k) (k0_off7_inb i k h1) k.val 6 (trip_lt k) (by decide) (k0_off7_eq k),
    pieceQ_apply arg2 X (k0_off6 k) (k0_off6_inb i k h1) k.val 5 (trip_lt k) (by decide) (k0_off6_eq k),
    pieceQ_apply arg2 X (k0_off5 k) (k0_off5_inb i k h1) k.val 4 (trip_lt k) (by decide) (k0_off5_eq k),
    pieceQ_apply arg2 X (k0_off4 k) (k0_off4_inb i k h1) k.val 3 (trip_lt k) (by decide) (k0_off4_eq k),
    pieceQ_apply arg2 X (k0_off3 k) (k0_off3_inb i k h1) k.val 2 (trip_lt k) (by decide) (k0_off3_eq k),
    pieceQ_apply arg2 X (k0_off2 k) (k0_off2_inb i k h1) k.val 1 (trip_lt k) (by decide) (k0_off2_eq k),
    pieceQ_apply arg2 X (k0_off1 k) (k0_off1_inb i k h1) k.val 0 (trip_lt k) (by decide) (k0_off1_eq k), trivial⟩

/-- The scales of a trip. -/
theorem xScales_apply (r : Fin 128) (l : Fin 24) :
    xScales i arg2 h1 X k (ix2 r l) = xS (rowsX (arg2.view.read (Elt Ideal) X)) ⟨128 * k.val + r.val, by have := trip_lt k; omega⟩ l := by
  unfold xScales
  let T := fun (r : Fin 128) (l : Fin 24) => xS (rowsX (arg2.view.read (Elt Ideal) X)) ⟨128 * k.val + r.val, by have := trip_lt k; omega⟩ l
  exact lane24_step T 23 (by decide) _ _ (lane24_step T 22 (by decide) _ _ (lane24_step T 21 (by decide) _ _ (lane24_step T 20 (by decide) _ _ (lane24_step T 19 (by decide) _ _ (lane24_step T 18 (by decide) _ _ (lane24_step T 17 (by decide) _ _ (lane24_step T 16 (by decide) _ _ (lane24_step T 15 (by decide) _ _ (lane24_step T 14 (by decide) _ _ (lane24_step T 13 (by decide) _ _ (lane24_step T 12 (by decide) _ _ (lane24_step T 11 (by decide) _ _ (lane24_step T 10 (by decide) _ _ (lane24_step T 9 (by decide) _ _ (lane24_step T 8 (by decide) _ _ (lane24_step T 7 (by decide) _ _ (lane24_step T 6 (by decide) _ _ (lane24_step T 5 (by decide) _ _ (lane24_step T 4 (by decide) _ _ (lane24_step T 3 (by decide) _ _ (lane24_step T 2 (by decide) _ _ (lane24_step T 1 (by decide) _ _ (lane24_step T 0 (by decide) _ _ (fun _ _ hl => absurd hl (Nat.not_lt_zero _))
    (xScale_at arg2 X (k0_off1 k) (k0_off1_inb i k h1) k.val 0 (trip_lt k) (by decide) (k0_off1_eq k)))
    (xScale_at arg2 X (k0_off2 k) (k0_off2_inb i k h1) k.val 1 (trip_lt k) (by decide) (k0_off2_eq k)))
    (xScale_at arg2 X (k0_off3 k) (k0_off3_inb i k h1) k.val 2 (trip_lt k) (by decide) (k0_off3_eq k)))
    (xScale_at arg2 X (k0_off4 k) (k0_off4_inb i k h1) k.val 3 (trip_lt k) (by decide) (k0_off4_eq k)))
    (xScale_at arg2 X (k0_off5 k) (k0_off5_inb i k h1) k.val 4 (trip_lt k) (by decide) (k0_off5_eq k)))
    (xScale_at arg2 X (k0_off6 k) (k0_off6_inb i k h1) k.val 5 (trip_lt k) (by decide) (k0_off6_eq k)))
    (xScale_at arg2 X (k0_off7 k) (k0_off7_inb i k h1) k.val 6 (trip_lt k) (by decide) (k0_off7_eq k)))
    (xScale_at arg2 X (k0_off8 k) (k0_off8_inb i k h1) k.val 7 (trip_lt k) (by decide) (k0_off8_eq k)))
    (xScale_at arg2 X (k0_off9 k) (k0_off9_inb i k h1) k.val 8 (trip_lt k) (by decide) (k0_off9_eq k)))
    (xScale_at arg2 X (k0_off10 k) (k0_off10_inb i k h1) k.val 9 (trip_lt k) (by decide) (k0_off10_eq k)))
    (xScale_at arg2 X (k0_off11 k) (k0_off11_inb i k h1) k.val 10 (trip_lt k) (by decide) (k0_off11_eq k)))
    (xScale_at arg2 X (k0_off12 k) (k0_off12_inb i k h1) k.val 11 (trip_lt k) (by decide) (k0_off12_eq k)))
    (xScale_at arg2 X (k0_off13 k) (k0_off13_inb i k h1) k.val 12 (trip_lt k) (by decide) (k0_off13_eq k)))
    (xScale_at arg2 X (k0_off14 k) (k0_off14_inb i k h1) k.val 13 (trip_lt k) (by decide) (k0_off14_eq k)))
    (xScale_at arg2 X (k0_off15 k) (k0_off15_inb i k h1) k.val 14 (trip_lt k) (by decide) (k0_off15_eq k)))
    (xScale_at arg2 X (k0_off16 k) (k0_off16_inb i k h1) k.val 15 (trip_lt k) (by decide) (k0_off16_eq k)))
    (xScale_at arg2 X (k0_off17 k) (k0_off17_inb i k h1) k.val 16 (trip_lt k) (by decide) (k0_off17_eq k)))
    (xScale_at arg2 X (k0_off18 k) (k0_off18_inb i k h1) k.val 17 (trip_lt k) (by decide) (k0_off18_eq k)))
    (xScale_at arg2 X (k0_off19 k) (k0_off19_inb i k h1) k.val 18 (trip_lt k) (by decide) (k0_off19_eq k)))
    (xScale_at arg2 X (k0_off20 k) (k0_off20_inb i k h1) k.val 19 (trip_lt k) (by decide) (k0_off20_eq k)))
    (xScale_at arg2 X (k0_off21 k) (k0_off21_inb i k h1) k.val 20 (trip_lt k) (by decide) (k0_off21_eq k)))
    (xScale_at arg2 X (k0_off22 k) (k0_off22_inb i k h1) k.val 21 (trip_lt k) (by decide) (k0_off22_eq k)))
    (xScale_at arg2 X (k0_off23 k) (k0_off23_inb i k h1) k.val 22 (trip_lt k) (by decide) (k0_off23_eq k)))
    (xScale_at arg2 X (k0_off24 k) (k0_off24_inb i k h1) k.val 23 (trip_lt k) (by decide) (k0_off24_eq k)) r l l.isLt

/-- Every row and group of a trip is stored, among the codes. -/
theorem xListC_mem (g : Fin 24) : ∃ o h, pieceC arg2 X o h ∈ xListC i arg2 h1 X k ∧ o = ![128 * k.val, 128 * g.val] :=
  match g with
  | ⟨0, _⟩ => ⟨k0_off1 k, k0_off1_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), k0_off1_eq k⟩
  | ⟨1, _⟩ => ⟨k0_off2 k, k0_off2_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), k0_off2_eq k⟩
  | ⟨2, _⟩ => ⟨k0_off3 k, k0_off3_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), k0_off3_eq k⟩
  | ⟨3, _⟩ => ⟨k0_off4 k, k0_off4_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), k0_off4_eq k⟩
  | ⟨4, _⟩ => ⟨k0_off5 k, k0_off5_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), k0_off5_eq k⟩
  | ⟨5, _⟩ => ⟨k0_off6 k, k0_off6_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), k0_off6_eq k⟩
  | ⟨6, _⟩ => ⟨k0_off7 k, k0_off7_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), k0_off7_eq k⟩
  | ⟨7, _⟩ => ⟨k0_off8 k, k0_off8_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), k0_off8_eq k⟩
  | ⟨8, _⟩ => ⟨k0_off9 k, k0_off9_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), k0_off9_eq k⟩
  | ⟨9, _⟩ => ⟨k0_off10 k, k0_off10_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), k0_off10_eq k⟩
  | ⟨10, _⟩ => ⟨k0_off11 k, k0_off11_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), k0_off11_eq k⟩
  | ⟨11, _⟩ => ⟨k0_off12 k, k0_off12_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), k0_off12_eq k⟩
  | ⟨12, _⟩ => ⟨k0_off13 k, k0_off13_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), k0_off13_eq k⟩
  | ⟨13, _⟩ => ⟨k0_off14 k, k0_off14_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), k0_off14_eq k⟩
  | ⟨14, _⟩ => ⟨k0_off15 k, k0_off15_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), k0_off15_eq k⟩
  | ⟨15, _⟩ => ⟨k0_off16 k, k0_off16_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), k0_off16_eq k⟩
  | ⟨16, _⟩ => ⟨k0_off17 k, k0_off17_inb i k h1, List.mem_cons_of_mem _ (List.mem_cons_of_mem _ (List.mem_cons_of_mem _ (List.mem_cons_of_mem _ (List.mem_cons_of_mem _ (List.mem_cons_of_mem _ (List.mem_cons_of_mem _ (List.mem_cons_self))))))), k0_off17_eq k⟩
  | ⟨17, _⟩ => ⟨k0_off18 k, k0_off18_inb i k h1, List.mem_cons_of_mem _ (List.mem_cons_of_mem _ (List.mem_cons_of_mem _ (List.mem_cons_of_mem _ (List.mem_cons_of_mem _ (List.mem_cons_of_mem _ (List.mem_cons_self)))))), k0_off18_eq k⟩
  | ⟨18, _⟩ => ⟨k0_off19 k, k0_off19_inb i k h1, List.mem_cons_of_mem _ (List.mem_cons_of_mem _ (List.mem_cons_of_mem _ (List.mem_cons_of_mem _ (List.mem_cons_of_mem _ (List.mem_cons_self))))), k0_off19_eq k⟩
  | ⟨19, _⟩ => ⟨k0_off20 k, k0_off20_inb i k h1, List.mem_cons_of_mem _ (List.mem_cons_of_mem _ (List.mem_cons_of_mem _ (List.mem_cons_of_mem _ (List.mem_cons_self)))), k0_off20_eq k⟩
  | ⟨20, _⟩ => ⟨k0_off21 k, k0_off21_inb i k h1, List.mem_cons_of_mem _ (List.mem_cons_of_mem _ (List.mem_cons_of_mem _ (List.mem_cons_self))), k0_off21_eq k⟩
  | ⟨21, _⟩ => ⟨k0_off22 k, k0_off22_inb i k h1, List.mem_cons_of_mem _ (List.mem_cons_of_mem _ (List.mem_cons_self)), k0_off22_eq k⟩
  | ⟨22, _⟩ => ⟨k0_off23 k, k0_off23_inb i k h1, List.mem_cons_of_mem _ (List.mem_cons_self), k0_off23_eq k⟩
  | ⟨23, _⟩ => ⟨k0_off24 k, k0_off24_inb i k h1, List.mem_cons_self, k0_off24_eq k⟩
  | ⟨n + 24, h⟩ => absurd h (by omega)

/-- Every row and group of a trip is stored, among the quantised values. -/
theorem xListQ_mem (g : Fin 24) : ∃ o h, pieceQ arg2 X o h ∈ xListQ i arg2 h1 X k ∧ o = ![128 * k.val, 128 * g.val] :=
  match g with
  | ⟨0, _⟩ => ⟨k0_off1 k, k0_off1_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), k0_off1_eq k⟩
  | ⟨1, _⟩ => ⟨k0_off2 k, k0_off2_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), k0_off2_eq k⟩
  | ⟨2, _⟩ => ⟨k0_off3 k, k0_off3_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), k0_off3_eq k⟩
  | ⟨3, _⟩ => ⟨k0_off4 k, k0_off4_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), k0_off4_eq k⟩
  | ⟨4, _⟩ => ⟨k0_off5 k, k0_off5_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), k0_off5_eq k⟩
  | ⟨5, _⟩ => ⟨k0_off6 k, k0_off6_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), k0_off6_eq k⟩
  | ⟨6, _⟩ => ⟨k0_off7 k, k0_off7_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), k0_off7_eq k⟩
  | ⟨7, _⟩ => ⟨k0_off8 k, k0_off8_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), k0_off8_eq k⟩
  | ⟨8, _⟩ => ⟨k0_off9 k, k0_off9_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), k0_off9_eq k⟩
  | ⟨9, _⟩ => ⟨k0_off10 k, k0_off10_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), k0_off10_eq k⟩
  | ⟨10, _⟩ => ⟨k0_off11 k, k0_off11_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), k0_off11_eq k⟩
  | ⟨11, _⟩ => ⟨k0_off12 k, k0_off12_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), k0_off12_eq k⟩
  | ⟨12, _⟩ => ⟨k0_off13 k, k0_off13_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), k0_off13_eq k⟩
  | ⟨13, _⟩ => ⟨k0_off14 k, k0_off14_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), k0_off14_eq k⟩
  | ⟨14, _⟩ => ⟨k0_off15 k, k0_off15_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), k0_off15_eq k⟩
  | ⟨15, _⟩ => ⟨k0_off16 k, k0_off16_inb i k h1, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), k0_off16_eq k⟩
  | ⟨16, _⟩ => ⟨k0_off17 k, k0_off17_inb i k h1, List.mem_cons_of_mem _ (List.mem_cons_of_mem _ (List.mem_cons_of_mem _ (List.mem_cons_of_mem _ (List.mem_cons_of_mem _ (List.mem_cons_of_mem _ (List.mem_cons_of_mem _ (List.mem_cons_self))))))), k0_off17_eq k⟩
  | ⟨17, _⟩ => ⟨k0_off18 k, k0_off18_inb i k h1, List.mem_cons_of_mem _ (List.mem_cons_of_mem _ (List.mem_cons_of_mem _ (List.mem_cons_of_mem _ (List.mem_cons_of_mem _ (List.mem_cons_of_mem _ (List.mem_cons_self)))))), k0_off18_eq k⟩
  | ⟨18, _⟩ => ⟨k0_off19 k, k0_off19_inb i k h1, List.mem_cons_of_mem _ (List.mem_cons_of_mem _ (List.mem_cons_of_mem _ (List.mem_cons_of_mem _ (List.mem_cons_of_mem _ (List.mem_cons_self))))), k0_off19_eq k⟩
  | ⟨19, _⟩ => ⟨k0_off20 k, k0_off20_inb i k h1, List.mem_cons_of_mem _ (List.mem_cons_of_mem _ (List.mem_cons_of_mem _ (List.mem_cons_of_mem _ (List.mem_cons_self)))), k0_off20_eq k⟩
  | ⟨20, _⟩ => ⟨k0_off21 k, k0_off21_inb i k h1, List.mem_cons_of_mem _ (List.mem_cons_of_mem _ (List.mem_cons_of_mem _ (List.mem_cons_self))), k0_off21_eq k⟩
  | ⟨21, _⟩ => ⟨k0_off22 k, k0_off22_inb i k h1, List.mem_cons_of_mem _ (List.mem_cons_of_mem _ (List.mem_cons_self)), k0_off22_eq k⟩
  | ⟨22, _⟩ => ⟨k0_off23 k, k0_off23_inb i k h1, List.mem_cons_of_mem _ (List.mem_cons_self), k0_off23_eq k⟩
  | ⟨23, _⟩ => ⟨k0_off24 k, k0_off24_inb i k h1, List.mem_cons_self, k0_off24_eq k⟩
  | ⟨n + 24, h⟩ => absurd h (by omega)

/-- A place of the 128 rows of a trip lies in the rectangle of its group. -/
theorem mem_group (o : Fin 2 → ℕ) (h : ∀ a, o a + S128x128.size a ≤ S1536x3072.size a) (y : S1536x3072.Idx) (e : o = ![128 * ((y 0).val / 128), 128 * ((y 1).val / 128)]) :
    y ∈ (Rect.unit (s := S1536x3072) o S128x128.size h).set := by
  subst e
  rw [Rect.mem_set_unit]
  intro a
  match a with
  | ⟨0, _⟩ =>
    show 128 * ((y 0).val / 128) ≤ (y 0).val ∧ (y 0).val < 128 * ((y 0).val / 128) + 128
    omega
  | ⟨1, _⟩ =>
    show 128 * ((y 1).val / 128) ≤ (y 1).val ∧ (y 1).val < 128 * ((y 1).val / 128) + 128
    omega
end

/-- The pieces of `L` are blocks of `G`, and together cover the indices satisfying `P`. -/
def Upto {s : Shape} {e : EltTy} (G : Vec Ideal s e) (P : s.Idx → Prop) (L : List (View.Piece (Elt Ideal) s e)) : Prop :=
  (∀ p ∈ L, ∀ x : p.1.shape.Idx, p.2 x = G (p.1.emb x)) ∧ ∀ y : s.Idx, P y → ∃ p ∈ L, y ∈ p.1.set

/-- `Upto` speaks of the list only. -/
theorem Upto.of_eq {s : Shape} {e : EltTy} {G : Vec Ideal s e} {P : s.Idx → Prop} {L L' : List (View.Piece (Elt Ideal) s e)}
    (h : Upto G P L) (e : L = L') : Upto G P L' := e ▸ h

section
variable (𝒱 : Variants) (c : Dev nD) (bd : Option 𝒱.V) (i : grid0.Coords) (arg1 : Memref sig .tc .smem S64x24 .f32) (harg1 : arg1.IsWhole) (arg2 : Memref sig .tc .vmem S1536x3072 .bf16) (harg2 : arg2.IsWhole) (arg3 : Memref sig .tc .vmem S256x3072 .fp8e4m3) (harg3 : arg3.IsWhole) (arg4 : Memref sig .tc .vmem S256x3072 .fp8e4m3) (harg4 : arg4.IsWhole) (arg5 : Memref sig .tc .vmem S1536x256 .fp8e4m3) (harg5 : arg5.IsWhole) (arg6 : Memref sig .tc .vmem S1536x32 .f32) (harg6 : arg6.IsWhole) (arg7 : Memref sig .tc .vmem S1536x3072 .fp8e4m3) (harg7 : arg7.IsWhole) (arg8 : Memref sig .tc .vmem S1536x24 .f32) (harg8 : arg8.IsWhole) (arg9 : Memref sig .tc .vmem S1536x3072 .bf16) (harg9 : arg9.IsWhole) (arg10 : Memref sig .tc .vmem S256x3072 .bf16) (harg10 : arg10.IsWhole) (arg11 : Memref sig .tc .vmem S256x3072 .bf16) (harg11 : arg11.IsWhole)
  (k0_h1 : k0_cond1 i = 1#1) (X : BufTy.Contents (Elt Ideal) arg2.view.ty)

/-- The stores of the trips before trip `n` are blocks of the three arrays, and cover the rows before row `128 n`. -/
theorem pb_of (n : ℕ) (hle : n ≤ k0_t1_loop.trips) :
    Upto (allC (arg2.view.read (Elt Ideal) X)) (fun y => (y 0).val < 128 * n) (pb_k0_t1 𝒱 c bd i arg1 harg1 arg2 harg2 arg3 harg3 arg4 harg4 arg5 harg5 arg6 harg6 arg7 harg7 arg8 harg8 arg9 harg9 arg10 harg10 arg11 harg11 k0_h1 X n).1
    ∧ Upto (allS (arg2.view.read (Elt Ideal) X)) (fun y => (y 0).val < 128 * n) (pb_k0_t1 𝒱 c bd i arg1 harg1 arg2 harg2 arg3 harg3 arg4 harg4 arg5 harg5 arg6 harg6 arg7 harg7 arg8 harg8 arg9 harg9 arg10 harg10 arg11 harg11 k0_h1 X n).2.1
    ∧ Upto (allQ (arg2.view.read (Elt Ideal) X)) (fun y => (y 0).val < 128 * n) (pb_k0_t1 𝒱 c bd i arg1 harg1 arg2 harg2 arg3 harg3 arg4 harg4 arg5 harg5 arg6 harg6 arg7 harg7 arg8 harg8 arg9 harg9 arg10 harg10 arg11 harg11 k0_h1 X n).2.2 := by
  induction n with
  | zero =>
    rw [pb_k0_t1.eq_1]
    exact ⟨⟨fun p hp => absurd hp List.not_mem_nil, fun y hy => absurd hy (by omega)⟩, ⟨fun p hp => absurd hp List.not_mem_nil, fun y hy => absurd hy (by omega)⟩,
      ⟨fun p hp => absurd hp List.not_mem_nil, fun y hy => absurd hy (by omega)⟩⟩
  | succ n ih =>
    have hn : n < k0_t1_loop.trips := hle
    obtain ⟨⟨c1, c2⟩, ⟨s1, s2⟩, ⟨q1, q2⟩⟩ := ih (by omega)
    obtain ⟨t1, t2, t3⟩ := trip_lists 𝒱 c bd i arg1 harg1 arg2 harg2 arg3 harg3 arg4 harg4 arg5 harg5 arg6 harg6 arg7 harg7 arg8 harg8 arg9 harg9 arg10 harg10 arg11 harg11 k0_h1 X (⟨n, hn⟩ : Fin k0_t1_loop.trips)
    have h12 : n < 12 := trip_lt (⟨n, hn⟩ : Fin k0_t1_loop.trips)
    have hs := pb_k0_t1_succ 𝒱 c bd i arg1 harg1 arg2 harg2 arg3 harg3 arg4 harg4 arg5 harg5 arg6 harg6 arg7 harg7 arg8 harg8 arg9 harg9 arg10 harg10 arg11 harg11 k0_h1 X (⟨n, hn⟩ : Fin k0_t1_loop.trips)
    have e1 := (congrArg (fun T => T.1) hs).trans (congrArg (fun T => T ++ (pb_k0_t1 𝒱 c bd i arg1 harg1 arg2 harg2 arg3 harg3 arg4 harg4 arg5 harg5 arg6 harg6 arg7 harg7 arg8 harg8 arg9 harg9 arg10 harg10 arg11 harg11 k0_h1 X n).1) t1)
    have e2 := (congrArg (fun T => T.2.1) hs).trans (congrArg (fun T => T ++ (pb_k0_t1 𝒱 c bd i arg1 harg1 arg2 harg2 arg3 harg3 arg4 harg4 arg5 harg5 arg6 harg6 arg7 harg7 arg8 harg8 arg9 harg9 arg10 harg10 arg11 harg11 k0_h1 X n).2.1) t2)
    have e3 := (congrArg (fun T => T.2.2) hs).trans (congrArg (fun T => T ++ (pb_k0_t1 𝒱 c bd i arg1 harg1 arg2 harg2 arg3 harg3 arg4 harg4 arg5 harg5 arg6 harg6 arg7 harg7 arg8 harg8 arg9 harg9 arg10 harg10 arg11 harg11 k0_h1 X n).2.2) t3)
    clear hs t1 t2 t3
    suffices h : Upto (allC (arg2.view.read (Elt Ideal) X)) (fun y => (y 0).val < 128 * (n + 1)) (xListC i arg2 k0_h1 X ⟨n, hn⟩ ++ (pb_k0_t1 𝒱 c bd i arg1 harg1 arg2 harg2 arg3 harg3 arg4 harg4 arg5 harg5 arg6 harg6 arg7 harg7 arg8 harg8 arg9 harg9 arg10 harg10 arg11 harg11 k0_h1 X n).1)
        ∧ Upto (allS (arg2.view.read (Elt Ideal) X)) (fun y => (y 0).val < 128 * (n + 1)) ([⟨Rect.unit (k0_off25 ⟨n, hn⟩) S128x24.size (k0_off25_inb i ⟨n, hn⟩ k0_h1), xScales i arg2 k0_h1 X ⟨n, hn⟩⟩] ++ (pb_k0_t1 𝒱 c bd i arg1 harg1 arg2 harg2 arg3 harg3 arg4 harg4 arg5 harg5 arg6 harg6 arg7 harg7 arg8 harg8 arg9 harg9 arg10 harg10 arg11 harg11 k0_h1 X n).2.1)
        ∧ Upto (allQ (arg2.view.read (Elt Ideal) X)) (fun y => (y 0).val < 128 * (n + 1)) (xListQ i arg2 k0_h1 X ⟨n, hn⟩ ++ (pb_k0_t1 𝒱 c bd i arg1 harg1 arg2 harg2 arg3 harg3 arg4 harg4 arg5 harg5 arg6 harg6 arg7 harg7 arg8 harg8 arg9 harg9 arg10 harg10 arg11 harg11 k0_h1 X n).2.2) from
      ⟨h.1.of_eq e1.symm, h.2.1.of_eq e2.symm, h.2.2.of_eq e3.symm⟩
    refine ⟨⟨fun p hp => ?_, fun y hy => ?_⟩, ⟨fun p hp => ?_, fun y hy => ?_⟩, ⟨fun p hp => ?_, fun y hy => ?_⟩⟩
    · rcases List.mem_append.mp hp with hp | hp
      · exact (xListC_of i arg2 k0_h1 X ⟨n, hn⟩).mem p hp
      · exact c1 p hp
    · by_cases hlt : (y 0).val < 128 * n
      · obtain ⟨p, hp, hm⟩ := c2 y hlt
        exact ⟨p, List.mem_append_right _ hp, hm⟩
      · have hy1 : (y 1).val < 3072 := (y 1).isLt
        obtain ⟨o, h, hm, e⟩ := xListC_mem i arg2 k0_h1 X ⟨n, hn⟩ ⟨(y 1).val / 128, by omega⟩
        refine ⟨_, List.mem_append_left _ hm, mem_group o h y (e.trans ?_)⟩
        rw [show (y 0).val / 128 = n by omega]
    · rcases List.mem_append.mp hp with hp | hp
      · obtain rfl := List.mem_singleton.mp hp
        intro x
        obtain ⟨r, l, rfl⟩ : ∃ (r : Fin 128) (l : Fin 24), x = ix2 r l := ⟨x 0, x 1, by funext a; match a with | ⟨0, _⟩ => rfl | ⟨1, _⟩ => rfl⟩
        refine (xScales_apply i arg2 k0_h1 X ⟨n, hn⟩ r l).trans ?_
        have e25 := k0_off25_eq (⟨n, hn⟩ : Fin k0_t1_loop.trips)
        unfold allS
        refine congrArg₂ (xS _) (Fin.ext ?_) (Fin.ext ?_)
        · show 128 * n + r.val = k0_off25 ⟨n, hn⟩ 0 + 1 * r.val
          rw [e25]
          show _ = 128 * n + 1 * r.val
          omega
        · show l.val = k0_off25 ⟨n, hn⟩ 1 + 1 * l.val
          rw [e25]
          show _ = 0 + 1 * l.val
          omega
      · exact s1 p hp
    · by_cases hlt : (y 0).val < 128 * n
      · obtain ⟨p, hp, hm⟩ := s2 y hlt
        exact ⟨p, List.mem_append_right _ hp, hm⟩
      · refine ⟨_, List.mem_append_left _ List.mem_cons_self, ?_⟩
        have e25 := k0_off25_eq (⟨n, hn⟩ : Fin k0_t1_loop.trips)
        have hy1 : (y 1).val < 24 := (y 1).isLt
        rw [Rect.mem_set_unit, e25]
        intro a
        match a with
        | ⟨0, _⟩ =>
          show 128 * n ≤ (y 0).val ∧ (y 0).val < 128 * n + 128
          omega
        | ⟨1, _⟩ =>
          show 0 ≤ (y 1).val ∧ (y 1).val < 0 + 24
          omega
    · rcases List.mem_append.mp hp with hp | hp
      · exact (xListQ_of i arg2 k0_h1 X ⟨n, hn⟩).mem p hp
      · exact q1 p hp
    · by_cases hlt : (y 0).val < 128 * n
      · obtain ⟨p, hp, hm⟩ := q2 y hlt
        exact ⟨p, List.mem_append_right _ hp, hm⟩
      · have hy1 : (y 1).val < 3072 := (y 1).isLt
        obtain ⟨o, h, hm, e⟩ := xListQ_mem i arg2 k0_h1 X ⟨n, hn⟩ ⟨(y 1).val / 128, by omega⟩
        refine ⟨_, List.mem_append_left _ hm, mem_group o h y (e.trans ?_)⟩
        rw [show (y 0).val / 128 = n by omega]

/-- The loop makes twelve trips. -/
theorem trips_eq : k0_t1_loop.trips = 12 := by decide +kernel

/-- After the loop the three buffers read all codes, all scales and all quantised values, whatever they held before. -/
theorem pb_read (v7 : View sig .tc .vmem S1536x3072 .fp8e4m3) (f7 : BufTy.Contents (Elt Ideal) v7.ty) (v8 : View sig .tc .vmem S1536x24 .f32)
    (f8 : BufTy.Contents (Elt Ideal) v8.ty) (v9 : View sig .tc .vmem S1536x3072 .bf16) (f9 : BufTy.Contents (Elt Ideal) v9.ty) :
    v7.read (Elt Ideal) (v7.writes (Elt Ideal) f7 (pb_k0_t1 𝒱 c bd i arg1 harg1 arg2 harg2 arg3 harg3 arg4 harg4 arg5 harg5 arg6 harg6 arg7 harg7 arg8 harg8 arg9 harg9 arg10 harg10 arg11 harg11 k0_h1 X k0_t1_loop.trips).1) = allC (arg2.view.read (Elt Ideal) X)
    ∧ v8.read (Elt Ideal) (v8.writes (Elt Ideal) f8 (pb_k0_t1 𝒱 c bd i arg1 harg1 arg2 harg2 arg3 harg3 arg4 harg4 arg5 harg5 arg6 harg6 arg7 harg7 arg8 harg8 arg9 harg9 arg10 harg10 arg11 harg11 k0_h1 X k0_t1_loop.trips).2.1) = allS (arg2.view.read (Elt Ideal) X)
    ∧ v9.read (Elt Ideal) (v9.writes (Elt Ideal) f9 (pb_k0_t1 𝒱 c bd i arg1 harg1 arg2 harg2 arg3 harg3 arg4 harg4 arg5 harg5 arg6 harg6 arg7 harg7 arg8 harg8 arg9 harg9 arg10 harg10 arg11 harg11 k0_h1 X k0_t1_loop.trips).2.2) = allQ (arg2.view.read (Elt Ideal) X) := by
  obtain ⟨⟨c1, c2⟩, ⟨s1, s2⟩, ⟨q1, q2⟩⟩ := pb_of 𝒱 c bd i arg1 harg1 arg2 harg2 arg3 harg3 arg4 harg4 arg5 harg5 arg6 harg6 arg7 harg7 arg8 harg8 arg9 harg9 arg10 harg10 arg11 harg11 k0_h1 X k0_t1_loop.trips le_rfl
  have ht := trips_eq
  refine ⟨funext fun y => ?_, funext fun y => ?_, funext fun y => ?_⟩
  · have hy : (y 0).val < 1536 := (y 0).isLt
    exact View.read_writes_apply_of_pieces _ _ _ _ c1 y (c2 y (by omega))
  · have hy : (y 0).val < 1536 := (y 0).isLt
    exact View.read_writes_apply_of_pieces _ _ _ _ s1 y (s2 y (by omega))
  · have hy : (y 0).val < 1536 := (y 0).isLt
    exact View.read_writes_apply_of_pieces _ _ _ _ q1 y (q2 y (by omega))
end

end Cert.KernelIdeal.Gen
end
-- ==== Proof.StepValue.lean ====
module

public import proofs.«01_k».proof.Proof.Tile
public import proofs.«01_k».proof.Proof.XVals

@[expose] public section

set_option maxRecDepth 16384

noncomputable section

/-! One run of the kernel body, at the first grid point and after it, as a statement about what its operands read as before and
after: the blocks of codes and scales named by the functions of `Tile` and `XVals`. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Scale Cert.Val

local notation "𝕄" => MT nD τ sig Unit (Elt Ideal) ℕ (UR sig nD τ) ℕ

/-- The grid's coordinate is below sixteen. -/
theorem coord_lt (i : grid0.Coords) : (i 0).val < 16 := (i 0).isLt

/-- The gate weights of grid point `i`, from the block of codes and the table of scales staged there. -/
abbrev gateT (i : grid0.Coords) (W : Vec Ideal S256x3072 .fp8e4m3) (S : Vec Ideal S64x24 .f32) : Vec Ideal S256x3072 .bf16 :=
  wG (0 + 2 * (i 0).val) (by have := coord_lt i; omega) W S

/-- The up weights of grid point `i`, from the block of codes and the table of scales staged there. -/
abbrev upT (i : grid0.Coords) (W : Vec Ideal S256x3072 .fp8e4m3) (S : Vec Ideal S64x24 .f32) : Vec Ideal S256x3072 .bf16 :=
  wG (32 + 2 * (i 0).val) (by have := coord_lt i; omega) W S

/-- A load of the rows a rectangle names reads the contents' value there. -/
theorem readAt_rows {s : Shape} {e : EltTy} {sp : Space} (v : View sig .tc sp s e) (R : Rect s) (f : BufTy.Contents (Elt Ideal) v.ty) (y : R.shape.Idx) :
    View.readAt (Elt Ideal) v R.toLoadRect f y = v.read (Elt Ideal) f (R.emb y) := by
  rw [View.readAt_eq_ld]
  rfl

set_option maxHeartbeats 1600000 in
/-- The body at the first grid point: it leaves the codes and scales of the activations, the quantised activations, and this
point's codes and scales of the hidden values, the other scales as found. -/
theorem stepA (c : Dev nD) (i : grid0.Coords) (arg1 : Memref sig .tc .smem S64x24 .f32) (harg1 : arg1.IsWhole) (arg2 : Memref sig .tc .vmem S1536x3072 .bf16) (harg2 : arg2.IsWhole) (arg3 : Memref sig .tc .vmem S256x3072 .fp8e4m3) (harg3 : arg3.IsWhole) (arg4 : Memref sig .tc .vmem S256x3072 .fp8e4m3) (harg4 : arg4.IsWhole) (arg5 : Memref sig .tc .vmem S1536x256 .fp8e4m3) (harg5 : arg5.IsWhole) (arg6 : Memref sig .tc .vmem S1536x32 .f32) (harg6 : arg6.IsWhole) (arg7 : Memref sig .tc .vmem S1536x3072 .fp8e4m3) (harg7 : arg7.IsWhole) (arg8 : Memref sig .tc .vmem S1536x24 .f32) (harg8 : arg8.IsWhole) (arg9 : Memref sig .tc .vmem S1536x3072 .bf16) (harg9 : arg9.IsWhole) (arg10 : Memref sig .tc .vmem S256x3072 .bf16) (harg10 : arg10.IsWhole) (arg11 : Memref sig .tc .vmem S256x3072 .bf16) (harg11 : arg11.IsWhole) (hc0 : cond0_0 i)
    (x0 : Vec Ideal S64x24 .f32) (x1 : Vec Ideal S1536x3072 .bf16) (x2 x3 : Vec Ideal S256x3072 .fp8e4m3) (y5 : Vec Ideal S1536x32 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare y5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (codeBlock (allQ x1) (gateT i x2 x0) (upT i x3 x0)) ∗ owns (c : Thread nD τ) arg6 fullShare (scaleBlock (allQ x1) (gateT i x2 x0) (upT i x3 x0) i y5) ∗ owns (c : Thread nD τ) arg7 fullShare (allC x1) ∗ owns (c : Thread nD τ) arg8 fullShare (allS x1) ∗ owns (c : Thread nD τ) arg9 fullShare (allQ x1) ∗ (∃ d, owns (c : Thread nD τ) arg10 fullShare d) ∗ (∃ d, owns (c : Thread nD τ) arg11 fullShare d)) -∗ K ⟨⟩))
      ⊢ wp frame (wpE (defs₀ (F := Ideal)) Variants.none c none) E (cc0__body i arg1 harg1 arg2 harg2 arg3 harg3 arg4 harg4 arg5 harg5 arg6 harg6 arg7 harg7 arg8 harg8 arg9 harg9 arg10 harg10 arg11 harg11) K := by
  unfold owns
  iintro ⟨⟨%f1, %e1, H1⟩, ⟨%f2, %e2, H2⟩, ⟨%f3, %e3, H3⟩, ⟨%f4, %e4, H4⟩, ⟨%d5, %f5, -, H5⟩, ⟨%f6, %e6, H6⟩, ⟨%d7, %f7, -, H7⟩, ⟨%d8, %f8, -, H8⟩, ⟨%d9, %f9, -, H9⟩, ⟨%d10, %f10, -, H10⟩, ⟨%d11, %f11, -, H11⟩, Hk⟩
  obtain ⟨l5, l6, l7, l8, l9⟩ := runA_lists (F := Ideal) c i arg1 harg1 arg2 harg2 arg3 harg3 arg4 harg4 arg5 harg5 arg6 harg6 arg7 harg7 arg8 harg8 arg9 harg9 arg10 harg10 arg11 harg11 hc0 f1 f2 f3 f4 f5 f6 f7 f8 f9 f10 f11
  obtain ⟨b7, b8, b9⟩ := pb_read Variants.none c none i arg1 harg1 arg2 harg2 arg3 harg3 arg4 harg4 arg5 harg5 arg6 harg6 arg7 harg7 arg8 harg8 arg9 harg9 arg10 harg10 arg11 harg11 hc0 f2 arg7.view f7 arg8.view f8 arg9.view f9
  rw [e2] at b7 b8 b9
  have g1 := v1063_eq i arg1 arg3 arg10 f1 f3 (coord_lt i)
  have g2 := v1065_eq i arg1 arg4 arg11 f1 f4 (coord_lt i)
  rw [e1, e3] at g1
  rw [e1, e4] at g2
  have r0 := fun y => (readAt_rows arg9.view rows0 _ y).trans (congrFun b9 _)
  have r1 := fun y => (readAt_rows arg9.view rows1 _ y).trans (congrFun b9 _)
  have r2 := fun y => (readAt_rows arg9.view rows2 _ y).trans (congrFun b9 _)
  have w5 := read_codes (allQ x1) (runB.sl.v1063 i arg1 arg3 arg10 f1 f3) (runB.sl.v1065 i arg1 arg4 arg11 f1 f4) arg5.view f5 _ _ _ r0 r1 r2
  have w6 := read_scales (allQ x1) (runB.sl.v1063 i arg1 arg3 arg10 f1 f3) (runB.sl.v1065 i arg1 arg4 arg11 f1 f4) i arg6.view f6 _ _ _ r0 r1 r2
  rw [g1, g2] at w5
  rw [g1, g2, e6] at w6
  replace w5 := (congrArg (fun L => arg5.view.read (Elt Ideal) (arg5.view.writes (Elt Ideal) f5 L)) (l5.trans (congrArg₂ (codeList _ _ _) g1 g2))).trans w5
  replace w6 := (congrArg (fun L => arg6.view.read (Elt Ideal) (arg6.view.writes (Elt Ideal) f6 L)) (l6.trans (congrArg₂ (scaleList i _ _ _ _ _ _) g1 g2))).trans w6
  have w7 := (congrArg (fun L => arg7.view.read (Elt Ideal) (arg7.view.writes (Elt Ideal) f7 L)) l7).trans b7
  have w8 := (congrArg (fun L => arg8.view.read (Elt Ideal) (arg8.view.writes (Elt Ideal) f8 L)) l8).trans b8
  have w9 := (congrArg (fun L => arg9.view.read (Elt Ideal) (arg9.view.writes (Elt Ideal) f9 L)) l9).trans b9
  iapply (runA (F := Ideal) c i arg1 harg1 arg2 harg2 arg3 harg3 arg4 harg4 arg5 harg5 arg6 harg6 arg7 harg7 arg8 harg8 arg9 harg9 arg10 harg10 arg11 harg11 hc0 f1 f2 f3 f4 f5 f6 f7 f8 f9 f10 f11).2.2.2.2.2.2.property E K
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, H10, H11⟩
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact w5
  isplitl [H6]
  · iexists _; isplitr; swap; · iexact H6
    ipureintro; exact w6
  isplitl [H7]
  · iexists _; isplitr; swap; · iexact H7
    ipureintro; exact w7
  isplitl [H8]
  · iexists _; isplitr; swap; · iexact H8
    ipureintro; exact w8
  isplitl [H9]
  · iexists _; isplitr; swap; · iexact H9
    ipureintro; exact w9
  isplitl [H10]
  · iexists _, _; isplitr; swap; · iexact H10
    ipureintro; rfl
  iexists _, _; isplitr; swap; · iexact H11
  ipureintro; rfl

set_option maxHeartbeats 1600000 in
/-- The body after the first grid point: from the quantised activations `q` it leaves this point's codes and scales of the hidden
values, everything else as found. -/
theorem stepB (c : Dev nD) (i : grid0.Coords) (arg1 : Memref sig .tc .smem S64x24 .f32) (harg1 : arg1.IsWhole) (arg2 : Memref sig .tc .vmem S1536x3072 .bf16) (harg2 : arg2.IsWhole) (arg3 : Memref sig .tc .vmem S256x3072 .fp8e4m3) (harg3 : arg3.IsWhole) (arg4 : Memref sig .tc .vmem S256x3072 .fp8e4m3) (harg4 : arg4.IsWhole) (arg5 : Memref sig .tc .vmem S1536x256 .fp8e4m3) (harg5 : arg5.IsWhole) (arg6 : Memref sig .tc .vmem S1536x32 .f32) (harg6 : arg6.IsWhole) (arg7 : Memref sig .tc .vmem S1536x3072 .fp8e4m3) (harg7 : arg7.IsWhole) (arg8 : Memref sig .tc .vmem S1536x24 .f32) (harg8 : arg8.IsWhole) (arg9 : Memref sig .tc .vmem S1536x3072 .bf16) (harg9 : arg9.IsWhole) (arg10 : Memref sig .tc .vmem S256x3072 .bf16) (harg10 : arg10.IsWhole) (arg11 : Memref sig .tc .vmem S256x3072 .bf16) (harg11 : arg11.IsWhole) (hc0 : ¬cond0_0 i)
    (x0 : Vec Ideal S64x24 .f32) (x1 : Vec Ideal S1536x3072 .bf16) (x2 x3 : Vec Ideal S256x3072 .fp8e4m3) (y5 : Vec Ideal S1536x32 .f32) (y6 : Vec Ideal S1536x3072 .fp8e4m3) (y7 : Vec Ideal S1536x24 .f32) (q : Vec Ideal S1536x3072 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare y5 ∗ owns (c : Thread nD τ) arg7 fullShare y6 ∗ owns (c : Thread nD τ) arg8 fullShare y7 ∗ owns (c : Thread nD τ) arg9 fullShare q ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (codeBlock q (gateT i x2 x0) (upT i x3 x0)) ∗ owns (c : Thread nD τ) arg6 fullShare (scaleBlock q (gateT i x2 x0) (upT i x3 x0) i y5) ∗ owns (c : Thread nD τ) arg7 fullShare y6 ∗ owns (c : Thread nD τ) arg8 fullShare y7 ∗ owns (c : Thread nD τ) arg9 fullShare q ∗ (∃ d, owns (c : Thread nD τ) arg10 fullShare d) ∗ (∃ d, owns (c : Thread nD τ) arg11 fullShare d)) -∗ K ⟨⟩))
      ⊢ wp frame (wpE (defs₀ (F := Ideal)) Variants.none c none) E (cc0__body i arg1 harg1 arg2 harg2 arg3 harg3 arg4 harg4 arg5 harg5 arg6 harg6 arg7 harg7 arg8 harg8 arg9 harg9 arg10 harg10 arg11 harg11) K := by
  unfold owns
  iintro ⟨⟨%f1, %e1, H1⟩, ⟨%f2, %e2, H2⟩, ⟨%f3, %e3, H3⟩, ⟨%f4, %e4, H4⟩, ⟨%d5, %f5, -, H5⟩, ⟨%f6, %e6, H6⟩, ⟨%f7, %e7, H7⟩, ⟨%f8, %e8, H8⟩, ⟨%f9, %e9, H9⟩, ⟨%d10, %f10, -, H10⟩, ⟨%d11, %f11, -, H11⟩, Hk⟩
  obtain ⟨l5, l6⟩ := runB_lists (F := Ideal) c i arg1 harg1 arg2 harg2 arg3 harg3 arg4 harg4 arg5 harg5 arg6 harg6 arg7 harg7 arg8 harg8 arg9 harg9 arg10 harg10 arg11 harg11 hc0 f1 f2 f3 f4 f5 f6 f7 f8 f9 f10 f11
  have b9 := e9
  have g1 := v1063_eq i arg1 arg3 arg10 f1 f3 (coord_lt i)
  have g2 := v1065_eq i arg1 arg4 arg11 f1 f4 (coord_lt i)
  rw [e1, e3] at g1
  rw [e1, e4] at g2
  have r0 := fun y => (readAt_rows arg9.view rows0 f9 y).trans (congrFun b9 _)
  have r1 := fun y => (readAt_rows arg9.view rows1 f9 y).trans (congrFun b9 _)
  have r2 := fun y => (readAt_rows arg9.view rows2 f9 y).trans (congrFun b9 _)
  have w5 := read_codes q (runB.sl.v1063 i arg1 arg3 arg10 f1 f3) (runB.sl.v1065 i arg1 arg4 arg11 f1 f4) arg5.view f5 _ _ _ r0 r1 r2
  have w6 := read_scales q (runB.sl.v1063 i arg1 arg3 arg10 f1 f3) (runB.sl.v1065 i arg1 arg4 arg11 f1 f4) i arg6.view f6 _ _ _ r0 r1 r2
  rw [g1, g2] at w5
  rw [g1, g2, e6] at w6
  replace w5 := (congrArg (fun L => arg5.view.read (Elt Ideal) (arg5.view.writes (Elt Ideal) f5 L)) (l5.trans (congrArg₂ (codeList _ _ _) g1 g2))).trans w5
  replace w6 := (congrArg (fun L => arg6.view.read (Elt Ideal) (arg6.view.writes (Elt Ideal) f6 L)) (l6.trans (congrArg₂ (scaleList i _ _ _ _ _ _) g1 g2))).trans w6
  iapply (runB (F := Ideal) c i arg1 harg1 arg2 harg2 arg3 harg3 arg4 harg4 arg5 harg5 arg6 harg6 arg7 harg7 arg8 harg8 arg9 harg9 arg10 harg10 arg11 harg11 hc0 f1 f2 f3 f4 f5 f6 f7 f8 f9 f10 f11).2.2.2.property E K
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, H10, H11⟩
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact w5
  isplitl [H6]
  · iexists _; isplitr; swap; · iexact H6
    ipureintro; exact w6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _, _; isplitr; swap; · iexact H10
    ipureintro; rfl
  iexists _, _; isplitr; swap; · iexact H11
  ipureintro; rfl

end Cert.KernelIdeal.Gen
end
-- ==== Proof.ValueRun.lean ====
module

public import proofs.«01_k».proof.Proof.StepValue
public import proofs.«01_k».proof.Proof.FrameI

@[expose] public section

set_option maxRecDepth 16384

noncomputable section

/-! The kernel's run with what it leaves constrained: each point's block of codes, the scales accumulated lane by lane, the codes
and scales of the activations written at the first point and kept. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

local notation "𝕄" => MT nD τ sig Unit (Elt Ideal) ℕ (UR sig nD τ) ℕ

variable (m : (ℓ : Loc nD τ sig) → Buf (Elt Ideal) ℓ) (ρ : Dev nD → PrngReg)

/-- The activations as the region finds them. -/
def xIn (c : Dev nD) : Vec Ideal S1536x3072 .bf16 := V m c main_v0

/-- The weight codes as the region finds them. -/
def wIn (c : Dev nD) : Vec Ideal S8192x3072 .fp8e4m3 := V m c main_arg1

/-- The table of weight scales as the region finds it. -/
def sIn (c : Dev nD) : Vec Ideal S64x24 .f32 := V m c main_arg2

/-- The gate weights at point `t`. -/
abbrev gateAt (c : Dev nD) (t : Fin cfg0.N) : Vec Ideal S256x3072 .bf16 := gateT (grid0.coords t) (iblk m c 2 t) (iblk m c 0 t)

/-- The up weights at point `t`. -/
abbrev upAt (c : Dev nD) (t : Fin cfg0.N) : Vec Ideal S256x3072 .bf16 := upT (grid0.coords t) (iblk m c 3 t) (iblk m c 0 t)

/-- What holds between points: the scratch for the quantised activations holds them from the first point on; the other scratch
buffers and the generator's register hold anything. -/
def kept (c : Dev nD) : sProp 𝕄 :=
  iprop(iprop(owns (c : Thread nD τ) scM0_0 fullShare (allQ (xIn m c)) ∗ (∃ d, owns (c : Thread nD τ) scM0_1 fullShare d) ∗ (∃ d, owns (c : Thread nD τ) scM0_2 fullShare d)) ∗ (∃ r, prngReg c r))

/-- The data of the pipeline on core `c`, as relations between what a point finds in a buffer (`Y`) and what it leaves there (`X`). -/
def vdat (c : Dev nD) : RDat τ (Elt Ideal) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => X = codeBlock (allQ (xIn m c)) (gateAt m c t) (upAt m c t)
    | ⟨5, _⟩ => fun Y X => X = scaleBlock (allQ (xIn m c)) (gateAt m c t) (upAt m c t) (grid0.coords t) Y
    | ⟨6, _⟩ => fun Y X => X = if t.val = 0 then allC (xIn m c) else Y
    | ⟨7, _⟩ => fun Y X => X = if t.val = 0 then allS (xIn m c) else Y
  Φ t := if t.val = 0 then Pipeline.ΦA spec0 c else kept m c
  q w := Pipeline.shareOf spec0 w
  owed _ := 0

/-- The arrays are as the region finds them. -/
theorem vA_eq (c : Dev nD) (w : Fin cfg0.W) : (vdat m c).A w = V m c (Pipeline.arrRef spec0 w) := by
  dsimp only [vdat]

/-- The invariant, as defined. -/
theorem vPhi_eq (c : Dev nD) (t : Fin (cfg0.N + 1)) : (vdat m c).Φ t = if t.val = 0 then Pipeline.ΦA spec0 c else kept m c := by
  dsimp only [vdat]

/-- Before the first point. -/
theorem vPhi_zero (c : Dev nD) (t : Fin (cfg0.N + 1)) (h : t.val = 0) : (vdat m c).Φ t = Pipeline.ΦA spec0 c :=
  (vPhi_eq m c t).trans (if_pos h)

/-- After it. -/
theorem vPhi_pos (c : Dev nD) (t : Fin (cfg0.N + 1)) (h : t.val ≠ 0) : (vdat m c).Φ t = kept m c :=
  (vPhi_eq m c t).trans (if_neg h)

/-- The activations' block is the whole array. -/
theorem iblk_1 (c : Dev nD) (t : Fin cfg0.N) : iblk m c 1 t = xIn m c := by
  funext y
  unfold iblk xIn
  refine congrArg (V m c main_v0) ?_
  funext a
  match a with
  | ⟨0, _⟩ => exact Fin.ext (by show 0 * 1536 + 1 * (y 0).val = (y 0).val; omega)
  | ⟨1, _⟩ => exact Fin.ext (by show 0 * 3072 + 1 * (y 1).val = (y 1).val; omega)

/-- The scale table's block is the whole table. -/
theorem iblk_0 (c : Dev nD) (t : Fin cfg0.N) : iblk m c 0 t = sIn m c := by
  funext y
  unfold iblk sIn
  refine congrArg (V m c main_arg2) ?_
  funext a
  match a with
  | ⟨0, _⟩ => exact Fin.ext (by show 0 * 64 + 1 * (y 0).val = (y 0).val; omega)
  | ⟨1, _⟩ => exact Fin.ext (by show 0 * 24 + 1 * (y 1).val = (y 1).val; omega)

/-- An input's buffer holds its block wherever the body is handed it. -/
theorem vfinds_0 (c : Dev nD) (t : Fin cfg0.N) (Y) (h : (vdat m c).Finds 0 t Y) : Y = iblk m c 0 t := by
  obtain ⟨d, e⟩ := (vdat m c).finds_in_eq_fetched 0 rfl (fun _ _ _ => rfl) (fun _ _ _ h => h) t Y h
  exact e.trans (by unfold RDat.fetched RDat.blockOf iblk; rw [vA_eq]; rfl)
/-- The same of the activations. -/
theorem vfinds_1 (c : Dev nD) (t : Fin cfg0.N) (Y) (h : (vdat m c).Finds 1 t Y) : Y = iblk m c 1 t := by
  obtain ⟨d, e⟩ := (vdat m c).finds_in_eq_fetched 1 rfl (fun _ _ _ => rfl) (fun _ _ _ h => h) t Y h
  exact e.trans (by unfold RDat.fetched RDat.blockOf iblk; rw [vA_eq]; rfl)
/-- The same of the gate codes. -/
theorem vfinds_2 (c : Dev nD) (t : Fin cfg0.N) (Y) (h : (vdat m c).Finds 2 t Y) : Y = iblk m c 2 t := by
  obtain ⟨d, e⟩ := (vdat m c).finds_in_eq_fetched 2 rfl (fun _ _ _ => rfl) (fun _ _ _ h => h) t Y h
  exact e.trans (by unfold RDat.fetched RDat.blockOf iblk; rw [vA_eq]; rfl)
/-- The same of the up codes. -/
theorem vfinds_3 (c : Dev nD) (t : Fin cfg0.N) (Y) (h : (vdat m c).Finds 3 t Y) : Y = iblk m c 3 t := by
  obtain ⟨d, e⟩ := (vdat m c).finds_in_eq_fetched 3 rfl (fun _ _ _ => rfl) (fun _ _ _ h => h) t Y h
  exact e.trans (by unfold RDat.fetched RDat.blockOf iblk; rw [vA_eq]; rfl)

/-- What the body is handed at point `t`, the outputs' buffers at the contents named. -/
def vPre (c : Dev nD) (t : Fin cfg0.N) (y4 : Vec Ideal S1536x256 .fp8e4m3) (y5 : Vec Ideal S1536x32 .f32) (y6 : Vec Ideal S1536x3072 .fp8e4m3) (y7 : Vec Ideal S1536x24 .f32) : sProp 𝕄 :=
  iprop((vdat m c).Φ t.castSucc ∗ (vdat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare y4
    ∗ owns (c : Thread nD τ) (ms0_5 t) fullShare y5
    ∗ owns (c : Thread nD τ) (ms0_6 t) fullShare y6
    ∗ owns (c : Thread nD τ) (ms0_7 t) fullShare y7)

/-- What the body hands back. -/
def vPost (c : Dev nD) (t : Fin cfg0.N) (y5 : Vec Ideal S1536x32 .f32) (y6 : Vec Ideal S1536x3072 .fp8e4m3) (y7 : Vec Ideal S1536x24 .f32) : sProp 𝕄 :=
  iprop((vdat m c).Φ t.succ ∗ (vdat m c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (codeBlock (allQ (xIn m c)) (gateAt m c t) (upAt m c t))
    ∗ owns (c : Thread nD τ) (ms0_5 t) fullShare (scaleBlock (allQ (xIn m c)) (gateAt m c t) (upAt m c t) (grid0.coords t) y5)
    ∗ owns (c : Thread nD τ) (ms0_6 t) fullShare (if t.val = 0 then allC (xIn m c) else y6)
    ∗ owns (c : Thread nD τ) (ms0_7 t) fullShare (if t.val = 0 then allS (xIn m c) else y7))

set_option maxHeartbeats 1600000 in
/-- The body at any point. -/
theorem sound_value (c : Dev nD) (t : Fin cfg0.N) (y4 : Vec Ideal S1536x256 .fp8e4m3) (y5 : Vec Ideal S1536x32 .f32) (y6 : Vec Ideal S1536x3072 .fp8e4m3) (y7 : Vec Ideal S1536x24 .f32) :
    vPre m c t y4 y5 y6 y7 ⊢ wp Idealize.ShloMosaic.frame (wpE (defs₀ (F := Ideal)) Variants.none c none) Set.univ (bodyAt0 t) (fun _ => vPost m c t y5 y6 y7) := by
  unfold vPre vPost bodyAt0
  rw [show (vdat m c).owesAt () t.succ = (vdat m c).owesAt () t.castSucc from rfl]
  rw [vPhi_pos m c t.succ (Nat.succ_ne_zero _)]
  have hN : t.val < 16 := lt_of_lt_of_eq t.isLt (show cfg0.N = 16 from N_0)
  by_cases h0 : t.val = 0
  · rw [vPhi_zero m c t.castSucc h0, PhiA0_eq, if_pos h0, if_pos h0]
    have hc := (hcond0_0 t).mpr (by omega)
    unfold kept
    rw [iblk_1]
    iintro ⟨⟨⟨HS0, HS1, HS2⟩, Hg⟩, Ho, H0, H1, H2, H3, H4, H5, H6, H7⟩
    iapply (stepA c (grid0.coords t) _ _ _ _ _ _ _ _ _ _ _ _ _ _ _ _ _ _ _ _ _ _ hc (iblk m c 0 t) (xIn m c) (iblk m c 2 t) (iblk m c 3 t) y5 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [vPhi_pos m c t.castSucc h0, if_neg h0, if_neg h0]
    have hc : ¬cond0_0 (grid0.coords t) := fun h => by have := (hcond0_0 t).mp h; omega
    unfold kept
    iintro ⟨⟨⟨HS0, HS1, HS2⟩, Hg⟩, Ho, H0, H1, H2, H3, H4, H5, H6, H7⟩
    iapply (stepB c (grid0.coords t) _ _ _ _ _ _ _ _ _ _ _ _ _ _ _ _ _ _ _ _ _ _ hc (iblk m c 0 t) (iblk m c 1 t) (iblk m c 2 t) (iblk m c 3 t) y5 y6 y7 (allQ (xIn m c)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- What is handed back satisfies the relations. -/
theorem vPost_leaves (c : Dev nD) (t : Fin cfg0.N) (Y : (w : Fin cfg0.W) → (cfg0.win w).block.Idx → Elt Ideal (cfg0.win w).elt)
    (e0 : Y 0 = iblk m c 0 t) (e1 : Y 1 = iblk m c 1 t) (e2 : Y 2 = iblk m c 2 t) (e3 : Y 3 = iblk m c 3 t) :
    vPost m c t (Y 5) (Y 6) (Y 7) ⊢ iprop((vdat m c).Φ t.succ ∗ (vdat m c).owesAt () t.succ
      ∗ bigSep Finset.univ fun w => iprop(∃ X, ⌜(vdat m c).after w t (Y w) X⌝ ∗ owns (c : Thread nD τ) ((cfg0.win w).stage (cfg0.slots t w)) fullShare X)) := by
  rw [bigSep_W0]
  unfold vPost
  iintro ⟨HP, Ho, H0, H1, H2, H3, H4, H5, H6, H7⟩
  isplitl [HP]; · iexact HP
  isplitl [Ho]; · iexact Ho
  isplitl [H0]
  · iexists _; isplitr; swap; · iexact H0
    ipureintro; exact e0.symm
  isplitl [H1]
  · iexists _; isplitr; swap; · iexact H1
    ipureintro; exact e1.symm
  isplitl [H2]
  · iexists _; isplitr; swap; · iexact H2
    ipureintro; exact e2.symm
  isplitl [H3]
  · iexists _; isplitr; swap; · iexact H3
    ipureintro; exact e3.symm
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  iexists _; isplitr; swap; · iexact H7
  ipureintro; rfl

/-- The body obligation. -/
theorem value_obligation (c : Dev nD) : (vdat m c).BodyObligation (defs₀ (F := Ideal)) Variants.none () Set.univ := fun t Y hY => by
  have e0 := vfinds_0 m c t (Y 0) (hY 0)
  have e1 := vfinds_1 m c t (Y 1) (hY 1)
  have e2 := vfinds_2 m c t (Y 2) (hY 2)
  have e3 := vfinds_3 m c t (Y 3) (hY 3)
  rw [defs₀_row]
  refine triple_restated (sound_value m c t (Y 4) (Y 5) (Y 6) (Y 7)) rfl ?_ fun _ => vPost_leaves m c t Y e0 e1 e2 e3
  rw [bigSep_W0, e0, e1, e2, e3]
  exact .rfl

/-- The invariant before the first point is what the region starts with. -/
theorem v_in (c : Dev nD) : (Pipeline.ΦA spec0 c : sProp 𝕄) ⊢ (vdat m c).Φ 0 := by
  rw [vPhi_zero m c 0 rfl]

/-- The invariant after the last point gives the scratch buffers back. -/
theorem v_out (c : Dev nD) : (vdat m c).Φ (Fin.last cfg0.N) ⊢ (Pipeline.ΦA spec0 c : sProp 𝕄) := by
  rw [vPhi_pos m c (Fin.last cfg0.N) (by show cfg0.N ≠ 0; rw [show cfg0.N = 16 from N_0]; decide), PhiA0_eq]
  unfold kept
  iintro ⟨⟨HS0, HS1, HS2⟩, Hg⟩
  isplitl [HS0 HS1 HS2]
  · isplitl [HS0]
    · iexists _; iexact HS0
    isplitl [HS1]
    · iexact HS1
    iexact HS2
  iexact Hg

set_option backward.isDefEq.respectTransparency.types false in
/-- The run: every array ends at contents the relations allow, every other buffer as the region found it. -/
theorem run_value : θ_run defs (onTc (τ := τ) (main (F := Ideal))) (s₀ m ρ) (Pipeline.RDat.FramePost (cfgs 0) (vdat m) (V m)) :=
  Pipeline.RDat.θ_run_frame_track_shared cfgs (0 : Fin 1) launch₀0 defs₀ Variants.none (vdat m) m ρ main
    (hbody := value_obligation m) (hq := fun _ _ _ => rfl) (howed := fun _ _ => rfl) (V := V m) (hmain := hmain m Variants.none)
    (hA := vA_eq m) (hin := v_in m) (hout := v_out m) (Q' := _) (hQ' := fun _ h => h.1)

end Cert.KernelIdeal.Gen
end
-- ==== Proof.KernelEnd.lean ====
module

public import proofs.«01_k».proof.Proof.ValueRun

@[expose] public section

set_option maxRecDepth 16384

noncomputable section

/-! The arrays the kernel ends with: the relations of `ValueRun` followed through the sixteen points and read as the functions of
`Values`. -/

namespace Cert.KernelIdeal.Gen

open Idealize.ShloMosaic Idealize.ShloMosaic.TcCoe
open Idealize.ShloMosaic.Pipeline (RDat Cfg Window)
open Cert.Scale Cert.Val

variable (m : (ℓ : Loc nD τ sig) → Buf (Elt Ideal) ℓ)

/-- The activations by row and column. -/
abbrev X0 (c : Dev nD) : Fin 1536 → Fin 3072 → EReal := fun r d => xIn m c (ix2 r d)
/-- The weight codes by row and column. -/
abbrev W0 (c : Dev nD) : Fin 8192 → Fin 3072 → EReal := fun n d => wIn m c (ix2 n d)
/-- The weight scales by block row and block column. -/
abbrev S0 (c : Dev nD) : Fin 64 → Fin 24 → EReal := fun p g => sIn m c (ix2 p g)

/-- There are sixteen points. -/
theorem pt_lt (t : Fin cfg0.N) : t.val < 16 := lt_of_lt_of_eq t.isLt (show cfg0.N = 16 from N_0)

/-- The coordinate of point `t` is `t`. -/
theorem coord_pt (t : Fin cfg0.N) : (grid0.coords t 0).val = t.val := by
  have h := pt_lt t
  have e : (grid0.coords t 0).val = t.val / 1 % 16 := Pipeline.Grid.coords_val t 0 (by decide) rfl
  omega

/-- Row `n` of the gate codes staged at point `t` is row `256 t + n` of the weight codes. -/
theorem iblk_2 (c : Dev nD) (t : Fin cfg0.N) (n : Fin 256) (d : Fin 3072) :
    iblk m c 2 t (ix2 n d) = W0 m c ⟨256 * t.val + n.val, by have := pt_lt t; omega⟩ d := by
  have h := pt_lt t
  have hn := n.isLt
  have e := coord_pt t
  unfold iblk W0 wIn
  refine congrArg (V m c main_arg1) ?_
  funext a
  match a with
  | ⟨0, _⟩ => exact Fin.ext (by show (BitVec.ofNat 32 (grid0.coords t 0).val).toNat * 256 + 1 * n.val = 256 * t.val + n.val; rw [e, BitVec.toNat_ofNat]; omega)
  | ⟨1, _⟩ => exact Fin.ext (by show 0 * 3072 + 1 * d.val = d.val; omega)

/-- Row `n` of the up codes staged at point `t` is row `4096 + 256 t + n` of the weight codes. -/
theorem iblk_3 (c : Dev nD) (t : Fin cfg0.N) (n : Fin 256) (d : Fin 3072) :
    iblk m c 3 t (ix2 n d) = W0 m c ⟨4096 + (256 * t.val + n.val), by have := pt_lt t; omega⟩ d := by
  have h := pt_lt t
  have hn := n.isLt
  have e := coord_pt t
  unfold iblk W0 wIn
  refine congrArg (V m c main_arg1) ?_
  funext a
  match a with
  | ⟨0, _⟩ => exact Fin.ext (by
      show (Scalar.addi 16#32 (BitVec.ofNat 32 (grid0.coords t 0).val)).toNat * 256 + 1 * n.val = 4096 + (256 * t.val + n.val)
      rw [e]
      simp only [Scalar.addi, IntOp.addi, BitVec.toNat_add, BitVec.toNat_ofNat]
      omega)
  | ⟨1, _⟩ => exact Fin.ext (by show 0 * 3072 + 1 * d.val = d.val; omega)

/-- The gate weights at point `t` are the weights from row `256 t` on. -/
theorem gateAt_apply (c : Dev nD) (t : Fin cfg0.N) (n : Fin 256) (d : Fin 3072) :
    gateAt m c t (ix2 n d) = wQ (W0 m c) (S0 m c) ⟨256 * t.val + n.val, by have := pt_lt t; omega⟩ d := by
  have h := pt_lt t
  have hn := n.isLt
  have e := coord_pt t
  refine (congrArg₂ (fun a b : EReal => a * b) (iblk_2 m c t n d) (congrFun (iblk_0 m c t) _)).trans ?_
  unfold wQ S0
  refine congrArg (fun z => W0 m c ⟨256 * t.val + n.val, by omega⟩ d * sIn m c z) ?_
  funext a
  match a with
  | ⟨0, _⟩ => exact Fin.ext (by show 0 + 2 * (grid0.coords t 0).val + n.val / 128 = (256 * t.val + n.val) / 128; omega)
  | ⟨1, _⟩ => rfl

/-- The up weights at point `t` are the weights from row `4096 + 256 t` on. -/
theorem upAt_apply (c : Dev nD) (t : Fin cfg0.N) (n : Fin 256) (d : Fin 3072) :
    upAt m c t (ix2 n d) = wQ (W0 m c) (S0 m c) ⟨4096 + (256 * t.val + n.val), by have := pt_lt t; omega⟩ d := by
  have h := pt_lt t
  have hn := n.isLt
  have e := coord_pt t
  refine (congrArg₂ (fun a b : EReal => a * b) (iblk_3 m c t n d) (congrFun (iblk_0 m c t) _)).trans ?_
  unfold wQ S0
  refine congrArg (fun z => W0 m c ⟨4096 + (256 * t.val + n.val), by omega⟩ d * sIn m c z) ?_
  funext a
  match a with
  | ⟨0, _⟩ => exact Fin.ext (by show 32 + 2 * (grid0.coords t 0).val + n.val / 128 = (4096 + (256 * t.val + n.val)) / 128; omega)
  | ⟨1, _⟩ => rfl

/-- The hidden block at point `t` is the hidden values from output `256 t` on. -/
theorem hB_pt (c : Dev nD) (t : Fin cfg0.N) (r : Fin 1536) (n : Fin 256) :
    hB (allQ (xIn m c)) (gateAt m c t) (upAt m c t) r n
      = hid (X0 m c) (W0 m c) (S0 m c) r ⟨256 * t.val + n.val, by have := pt_lt t; omega⟩ := by
  unfold hB hid dot
  simp only [gateAt_apply, upAt_apply]
  rfl

/-- Half `b` of the block at point `t` is group `2 t + b`. -/
theorem hBY_pt (c : Dev nD) (t : Fin cfg0.N) (r : Fin 1536) (b : Fin 2) :
    hBY (allQ (xIn m c)) (gateAt m c t) (upAt m c t) r b
      = hY (X0 m c) (W0 m c) (S0 m c) r ⟨2 * t.val + b.val, by have := pt_lt t; omega⟩ := by
  have h := pt_lt t
  have hb := b.isLt
  unfold hBY hY
  refine congrArg yOf (funext fun k => ?_)
  rw [hB_pt]
  exact congrArg _ (Fin.ext (by show 256 * t.val + (b.val * 128 + k.val) = (2 * t.val + b.val) * 128 + k.val; omega))

/-- The code block at point `t` is the codes from output `256 t` on. -/
theorem codeBlock_pt (c : Dev nD) (t : Fin cfg0.N) (r : Fin 1536) (n : Fin 256) :
    codeBlock (allQ (xIn m c)) (gateAt m c t) (upAt m c t) (ix2 r n)
      = hC (X0 m c) (W0 m c) (S0 m c) r ⟨256 * t.val + n.val, by have := pt_lt t; omega⟩ := by
  have h := pt_lt t
  have hn := n.isLt
  show hBC _ _ _ r n = _
  unfold hBC hC
  rw [hB_pt, hBY_pt]
  refine congrArg (fun z => clip (_ * invK (hY (X0 m c) (W0 m c) (S0 m c) r z))) (Fin.ext ?_)
  show 2 * t.val + n.val / 128 = (256 * t.val + n.val) / 128
  omega

/-- An output's buffer at a point after the first: what the point before left, where that point wrote nothing back. -/
theorem found (c : Dev nD) (w : Fin cfg0.W) (hw : (cfg0.win w).isOut = true) (t : Fin cfg0.N) (h0 : t.val ≠ 0)
    (hf : (cfg0.win w).flush ⟨t.val - 1, Nat.lt_of_le_of_lt (Nat.sub_le _ _) t.isLt⟩ = false) (Y) (h : (vdat m c).Finds w t Y) :
    (vdat m c).Leaves w ⟨t.val - 1, Nat.lt_of_le_of_lt (Nat.sub_le _ _) t.isLt⟩ Y := by
  rcases ((vdat m c).finds_of_pos ((cfg0.win w).fetch_out hw t) h0 Y).mp h with h | h
  · exact absurd (h.symm.trans hf) (by decide)
  · exact h

/-- No write-back before the last point, where there is one at the last point only. -/
theorem no_flush {c : Dev nD} {w : Fin cfg0.W} (hfl : ∀ t : Fin cfg0.N, (cfg0.win w).flush t = true ↔ t.val % 16 = 15) (t : Fin cfg0.N) (h : t.val < 15) :
    (cfg0.win w).flush t = false := by
  rw [Bool.eq_false_iff]
  intro e
  have := (hfl t).mp e
  omega

/-- Each point leaves all codes of the activations. -/
theorem leaves_6 (c : Dev nD) : ∀ (n : ℕ) (hn : n < cfg0.N) (X), (vdat m c).Leaves 6 ⟨n, hn⟩ X → X = allC (xIn m c)
  | 0, hn, X, ⟨Y, _, e⟩ => by
    have e : X = if (0 : ℕ) = 0 then allC (xIn m c) else Y := e
    rw [e, if_pos rfl]
  | n + 1, hn, X, ⟨Y, hY, e⟩ => by
    have e : X = if n + 1 = 0 then allC (xIn m c) else Y := e
    rw [e, if_neg (Nat.succ_ne_zero n)]
    have := pt_lt ⟨n + 1, hn⟩
    exact leaves_6 c n (by omega) Y (found m c 6 rfl ⟨n + 1, hn⟩ (Nat.succ_ne_zero n) (no_flush (c := c) flush0_6 _ (by show n + 1 - 1 < 15; have : n + 1 < 16 := this; omega)) Y hY)

/-- Each point leaves all scales of the activations. -/
theorem leaves_7 (c : Dev nD) : ∀ (n : ℕ) (hn : n < cfg0.N) (X), (vdat m c).Leaves 7 ⟨n, hn⟩ X → X = allS (xIn m c)
  | 0, hn, X, ⟨Y, _, e⟩ => by
    have e : X = if (0 : ℕ) = 0 then allS (xIn m c) else Y := e
    rw [e, if_pos rfl]
  | n + 1, hn, X, ⟨Y, hY, e⟩ => by
    have e : X = if n + 1 = 0 then allS (xIn m c) else Y := e
    rw [e, if_neg (Nat.succ_ne_zero n)]
    have := pt_lt ⟨n + 1, hn⟩
    exact leaves_7 c n (by omega) Y (found m c 7 rfl ⟨n + 1, hn⟩ (Nat.succ_ne_zero n) (no_flush (c := c) flush0_7 _ (by show n + 1 - 1 < 15; have : n + 1 < 16 := this; omega)) Y hY)

/-- The scales a point leaves: its own two lanes those of its groups, the others as found. -/
theorem scaleBlock_pt (c : Dev nD) (t : Fin cfg0.N) (Y : Vec Ideal S1536x32 .f32) (r : Fin 1536) (l : Fin 32) :
    scaleBlock (allQ (xIn m c)) (gateAt m c t) (upAt m c t) (grid0.coords t) Y (ix2 r l)
      = if l.val = 2 * t.val + 1 ∨ l.val = 2 * t.val then hS (X0 m c) (W0 m c) (S0 m c) r l else Y (ix2 r l) := by
  have e := coord_pt t
  show (if l.val = 2 * (grid0.coords t 0).val + 1 then scaleK (hBY _ _ _ r 1)
    else if l.val = 2 * (grid0.coords t 0).val then scaleK (hBY _ _ _ r 0) else Y (ix2 r l)) = _
  rw [e]
  by_cases h1 : l.val = 2 * t.val + 1
  · rw [if_pos h1, if_pos (.inl h1), hBY_pt]
    exact congrArg (fun z => scaleK (hY (X0 m c) (W0 m c) (S0 m c) r z)) (Fin.ext h1.symm)
  · rw [if_neg h1]
    by_cases h2 : l.val = 2 * t.val
    · rw [if_pos h2, if_pos (.inr h2), hBY_pt]
      exact congrArg (fun z => scaleK (hY (X0 m c) (W0 m c) (S0 m c) r z)) (Fin.ext h2.symm)
    · rw [if_neg h2, if_neg (by rintro (h | h); exacts [h1 h, h2 h])]

/-- Point `t` leaves the scales of the groups below `2 t + 2`. -/
theorem leaves_5 (c : Dev nD) : ∀ (n : ℕ) (hn : n < cfg0.N) (X), (vdat m c).Leaves 5 ⟨n, hn⟩ X →
    ∀ (r : Fin 1536) (l : Fin 32), l.val < 2 * n + 2 → X (ix2 r l) = hS (X0 m c) (W0 m c) (S0 m c) r l
  | 0, hn, X, ⟨Y, _, e⟩ => fun r l hl => by
    have e : X = scaleBlock (allQ (xIn m c)) (gateAt m c ⟨0, hn⟩) (upAt m c ⟨0, hn⟩) (grid0.coords ⟨0, hn⟩) Y := e
    rw [e, scaleBlock_pt, if_pos (by show l.val = 2 * 0 + 1 ∨ l.val = 2 * 0; omega)]
  | n + 1, hn, X, ⟨Y, hY, e⟩ => fun r l hl => by
    have e : X = scaleBlock (allQ (xIn m c)) (gateAt m c ⟨n + 1, hn⟩) (upAt m c ⟨n + 1, hn⟩) (grid0.coords ⟨n + 1, hn⟩) Y := e
    rw [e, scaleBlock_pt]
    by_cases h : l.val = 2 * (n + 1) + 1 ∨ l.val = 2 * (n + 1)
    · rw [if_pos h]
    · rw [if_neg h]
      have := pt_lt ⟨n + 1, hn⟩
      exact leaves_5 c n (by omega) Y (found m c 5 rfl ⟨n + 1, hn⟩ (Nat.succ_ne_zero n) (no_flush (c := c) flush0_5 _ (by show n + 1 - 1 < 15; have : n + 1 < 16 := this; omega)) Y hY) r l (by omega)

/-- An array written back at the last point only holds what that point leaves, written through the last block. -/
theorem last_only (c : Dev nD) (w : Fin cfg0.W) (hfl : ∀ t : Fin cfg0.N, (cfg0.win w).flush t = true ↔ t.val % 16 = 15)
    (F) (h : (vdat m c).ArrAt w cfg0.N F) :
    ∃ t : Fin cfg0.N, ∃ G X, (vdat m c).Leaves w t X ∧ t.val = 15
      ∧ F = ((cfg0.win w).blk t).view.write (Elt Ideal) G ((cfg0.win w).cut (grid0.coords t) X) Finset.univ := by
  have h15 : (15 : ℕ) < cfg0.N := by rw [show cfg0.N = 16 from N_0]; decide
  have e : (vdat m c).ArrAt w (15 + 1) F := by rw [show (15 + 1 : ℕ) = cfg0.N from (show cfg0.N = 16 from N_0).symm]; exact h
  rw [(vdat m c).ArrAt_succ w ⟨15, h15⟩, if_pos ((hfl ⟨15, h15⟩).mpr rfl)] at e
  obtain ⟨G, X, _, hX, hF⟩ := e
  exact ⟨⟨15, h15⟩, G, X, hX, rfl, hF⟩

/-- The codes of the activations in the end. -/
theorem end_6 (c : Dev nD) (F) (h : (vdat m c).ArrAt 6 cfg0.N F) : F = (allC (xIn m c) : Vec Ideal S1536x3072 .fp8e4m3) := by
  obtain ⟨t, G, X, hX, _, rfl⟩ := last_only m c 6 flush0_6 F h
  obtain rfl := leaves_6 m c t.val t.isLt X hX
  funext y
  have hy : ((cfg0.win 6).blk t).view.emb y = y := by
    funext a
    match a with
    | ⟨0, _⟩ => exact Fin.ext (by show 0 * 1536 + 1 * (y 0).val = (y 0).val; omega)
    | ⟨1, _⟩ => exact Fin.ext (by show 0 * 3072 + 1 * (y 1).val = (y 1).val; omega)
  have := View.write_emb_of_mem (v := ((cfg0.win 6).blk t).view) (Val := Elt Ideal) G ((cfg0.win 6).cut (grid0.coords t) (allC (xIn m c))) (Finset.mem_univ y)
  rw [hy] at this
  exact this

/-- The scales of the activations in the end. -/
theorem end_7 (c : Dev nD) (F) (h : (vdat m c).ArrAt 7 cfg0.N F) : F = (allS (xIn m c) : Vec Ideal S1536x24 .f32) := by
  obtain ⟨t, G, X, hX, _, rfl⟩ := last_only m c 7 flush0_7 F h
  obtain rfl := leaves_7 m c t.val t.isLt X hX
  funext y
  have hy : ((cfg0.win 7).blk t).view.emb y = y := by
    funext a
    match a with
    | ⟨0, _⟩ => exact Fin.ext (by show 0 * 1536 + 1 * (y 0).val = (y 0).val; omega)
    | ⟨1, _⟩ => exact Fin.ext (by show 0 * 24 + 1 * (y 1).val = (y 1).val; omega)
  have := View.write_emb_of_mem (v := ((cfg0.win 7).blk t).view) (Val := Elt Ideal) G ((cfg0.win 7).cut (grid0.coords t) (allS (xIn m c))) (Finset.mem_univ y)
  rw [hy] at this
  exact this

/-- The scales of the hidden values in the end. -/
theorem end_5 (c : Dev nD) (F) (h : (vdat m c).ArrAt 5 cfg0.N F) :
    F = (fun y => hS (X0 m c) (W0 m c) (S0 m c) (y 0) (y 1) : Vec Ideal S1536x32 .f32) := by
  obtain ⟨t, G, X, hX, ht, rfl⟩ := last_only m c 5 flush0_5 F h
  funext y
  obtain ⟨r, l, rfl⟩ : ∃ (r : Fin 1536) (l : Fin 32), y = ix2 r l := ⟨y 0, y 1, by funext a; match a with | ⟨0, _⟩ => rfl | ⟨1, _⟩ => rfl⟩
  have hy : ((cfg0.win 5).blk t).view.emb (ix2 r l) = ix2 r l := by
    funext a
    match a with
    | ⟨0, _⟩ => exact Fin.ext (by show 0 * 1536 + 1 * r.val = r.val; omega)
    | ⟨1, _⟩ => exact Fin.ext (by show 0 * 32 + 1 * l.val = l.val; omega)
  have e := View.write_emb_of_mem (v := ((cfg0.win 5).blk t).view) (Val := Elt Ideal) G ((cfg0.win 5).cut (grid0.coords t) X) (Finset.mem_univ (ix2 r l))
  rw [hy] at e
  exact e.trans (leaves_5 m c t.val t.isLt X hX r l (by have := l.isLt; omega))

/-- After the points below `n`, the codes of the outputs below `256 n` are in place. -/
theorem upto_4 (c : Dev nD) : ∀ (n : ℕ) (hn : n ≤ cfg0.N) (F), (vdat m c).ArrAt 4 n F →
    ∀ (r : Fin 1536) (k : Fin 4096), k.val < 256 * n → F (ix2 r k) = hC (X0 m c) (W0 m c) (S0 m c) r k
  | 0, _, _, _ => fun r k hk => absurd hk (by omega)
  | n + 1, hn, F, h => fun r k hk => by
    have h16 := pt_lt ⟨n, hn⟩
    have h16 : n < 16 := h16
    have ec := coord_pt ⟨n, hn⟩
    rw [(vdat m c).ArrAt_succ 4 ⟨n, hn⟩, if_pos (flush0_4 ⟨n, hn⟩)] at h
    obtain ⟨G, X, hG, ⟨Y, _, eX⟩, rfl⟩ := h
    have eX : X = codeBlock (allQ (xIn m c)) (gateAt m c ⟨n, hn⟩) (upAt m c ⟨n, hn⟩) := eX
    have hemb : ∀ (q : Fin 1536) (l : Fin 256), ((cfg0.win 4).blk ⟨n, hn⟩).view.emb (ix2 q l) = ix2 q (⟨256 * n + l.val, by omega⟩ : Fin 4096) := by
      intro q l
      funext a
      match a with
      | ⟨0, _⟩ => exact Fin.ext (by show 0 * 1536 + 1 * q.val = q.val; omega)
      | ⟨1, _⟩ => exact Fin.ext (by
          show (BitVec.ofNat 32 (grid0.coords ⟨n, hn⟩ 0).val).toNat * 256 + 1 * l.val = 256 * n + l.val
          rw [ec, BitVec.toNat_ofNat]; show n % 2 ^ 32 * 256 + 1 * l.val = _; omega)
    by_cases hk' : k.val < 256 * n
    · rw [View.write_of_not_mem]
      · exact upto_4 c n (by omega) G hG r k hk'
      · intro hmem
        obtain ⟨y, _, hy⟩ := Finset.mem_map.mp hmem
        obtain ⟨q, l, rfl⟩ : ∃ (q : Fin 1536) (l : Fin 256), y = ix2 q l := ⟨y 0, y 1, by funext a; match a with | ⟨0, _⟩ => rfl | ⟨1, _⟩ => rfl⟩
        have e1 : 256 * n + l.val = k.val := congrArg (fun z : S1536x4096.Idx => (z 1).val) ((hemb q l).symm.trans hy)
        omega
    · have e := View.write_emb_of_mem (v := ((cfg0.win 4).blk ⟨n, hn⟩).view) (Val := Elt Ideal) G ((cfg0.win 4).cut (grid0.coords ⟨n, hn⟩) X)
        (Finset.mem_univ (ix2 r (⟨k.val - 256 * n, by omega⟩ : Fin 256)))
      rw [hemb] at e
      have ek : (⟨256 * n + (k.val - 256 * n), by omega⟩ : Fin 4096) = k := Fin.ext (by show 256 * n + (k.val - 256 * n) = k.val; omega)
      rw [ek] at e
      refine e.trans ?_
      show X (ix2 r (⟨k.val - 256 * n, by omega⟩ : Fin 256)) = _
      rw [eX, codeBlock_pt]
      exact congrArg _ ek

/-- The codes of the hidden values in the end. -/
theorem end_4 (c : Dev nD) (F) (h : (vdat m c).ArrAt 4 cfg0.N F) :
    F = (fun y => hC (X0 m c) (W0 m c) (S0 m c) (y 0) (y 1) : Vec Ideal S1536x4096 .fp8e4m3) := by
  funext y
  obtain ⟨r, k, rfl⟩ : ∃ (r : Fin 1536) (k : Fin 4096), y = ix2 r k := ⟨y 0, y 1, by funext a; match a with | ⟨0, _⟩ => rfl | ⟨1, _⟩ => rfl⟩
  exact upto_4 m c cfg0.N le_rfl F h r k (by rw [show cfg0.N = 16 from N_0]; have := k.isLt; omega)

/-- The activations are the first argument, its two leading axes merged. -/
theorem xIn_eq (c : Dev nD) :
    xIn m c = shapeCast S1536x3072 (m ((c : Thread nD τ).loc main_arg0) : Vec Ideal S12x128x3072 .bf16) shapeCasts_S12x128x3072_S1536x3072 := by
  show (StableHlo.reshape main_arg0 main_v0 (rfl : (.bf16 : EltTy) = .bf16) shapeCasts_S12x128x3072_S1536x3072 : HloOp τ sig (Elt Ideal)).result (fun b => m (c, b)) main_v0 = _
  rw [StableHlo.reshape_result]
  rfl

/-- The weight codes are the second argument. -/
theorem wIn_eq (c : Dev nD) : wIn m c = m ((c : Thread nD τ).loc main_arg1) := V_main_arg1 m c

/-- The weight scales are the third argument. -/
theorem sIn_eq (c : Dev nD) : sIn m c = m ((c : Thread nD τ).loc main_arg2) := V_main_arg2 m c

variable (ρ : Dev nD → PrngReg)

/-- The kernel's run: its four results as the functions of `Values`, its arguments unchanged. -/
theorem run_values : θ_run defs (onTc (τ := τ) (main (F := Ideal))) ⟨m, fun _ => 0, ρ⟩ (fun r => ∀ c : Dev nD,
      r.2.mem ((c.tc : Thread nD τ).loc main_v1_0) = (fun y => hC (X0 m c) (W0 m c) (S0 m c) (y 0) (y 1) : Vec Ideal S1536x4096 .fp8e4m3)
      ∧ r.2.mem ((c.tc : Thread nD τ).loc main_v1_1) = (fun y => hS (X0 m c) (W0 m c) (S0 m c) (y 0) (y 1) : Vec Ideal S1536x32 .f32)
      ∧ r.2.mem ((c.tc : Thread nD τ).loc main_v1_2) = (allC (xIn m c) : Vec Ideal S1536x3072 .fp8e4m3)
      ∧ r.2.mem ((c.tc : Thread nD τ).loc main_v1_3) = (allS (xIn m c) : Vec Ideal S1536x24 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨end_4 m c _ ((h.1 c).1 4), end_5 m c _ ((h.1 c).1 5), end_6 m c _ ((h.1 c).1 6), end_7 m c _ ((h.1 c).1 7), h.2 c⟩)
    (θ_run_and (run_value m ρ) (frame_ofR m ρ (vdat m) (vA_eq m) (run_value m ρ)))

end Cert.KernelIdeal.Gen
end
-- ==== Proof.RefValue.lean ====
module

public import proofs.«01_k».proof.Proof.Values
public import proofs.«01_k».proof.Proof.Gen.ReferenceIdeal.Skeleton

@[expose] public section

set_option maxRecDepth 16384

noncomputable section

namespace Cert.ReferenceIdeal.Gen

open Idealize.ShloMosaic Cert.Scale Cert.Val
variable {F : FTy → Type} [FloatOps F]

/-- The reference's group scales of the activations from `Y`, a 448th of each group's greatest magnitude: its printed operations. -/
def scaleVecX (Y : FVec F S1536x24 .f32) : FVec F S1536x24 .f32 :=
  have v8 : IVec S1536x24x253 32 := iota .tc S1536x24x253 32 [2] iota_S1536x24x253_d2_w32
  have v9 : IVec S1536x24x253 32 := broadcast S1536x24x253 125#32
  have v10 : IVec S1536x24x253 32 := subi v8 v9
  have v11 : FVec F S1536x24x253 .f32 := sitofp .f32 v10
  have v12 : FVec F S1536x24x253 .f32 := exp2 v11
  have v13 : FVec F S1536x24x1 .f32 := shapeCast S1536x24x1 Y shapeCasts_S1536x24_S1536x24x1
  have v14 : FVec F S1536x24x253 .f32 := broadcastTo S1536x24x253 v13 broadcasts_S1536x24x1_S1536x24x253
  have v15 : IVec S1536x24x253 1 := cmpf .ogt v12 v14
  have cst_2 : F .f32 := Scalar.ofBits .f32 0x7F800000#32
  have v16 : FVec F S1536x24x253 .f32 := broadcast S1536x24x253 cst_2
  have v17 : FVec F S1536x24x253 .f32 := select v15 v12 v16
  have v18 : FVec F S1536x24 .f32 := multiReduction .minimumf [2] S1536x24 v17 0x7F800000#32 reduces_S1536x24x253_S1536x24 (.inl rfl) rfl
  have cst_4 : F .f32 := Scalar.ofBits .f32 0x00800000#32
  have v19 : FVec F S1536x24 .f32 := broadcast S1536x24 cst_4
  have v20 : IVec S1536x24 1 := cmpf .oge Y v19
  have cst_5 : F .f32 := Scalar.ofBits .f32 0x7E800000#32
  have v21 : FVec F S1536x24 .f32 := broadcast S1536x24 cst_5
  have v22 : IVec S1536x24 1 := cmpf .olt Y v21
  have v23 : IVec S1536x24 1 := andi v20 v22
  have cst_6 : F .f32 := Scalar.ofBits .f32 0x3F800000#32
  have v24 : FVec F S1536x24 .f32 := broadcast S1536x24 cst_6
  have v25 : FVec F S1536x24 .f32 := select v23 v18 v24
  v25

/-- The same for the hidden values. -/
def scaleVecH (Y : FVec F S1536x32 .f32) : FVec F S1536x32 .f32 :=
  have v64 : IVec S1536x32x253 32 := iota .tc S1536x32x253 32 [2] iota_S1536x32x253_d2_w32
  have v65 : IVec S1536x32x253 32 := broadcast S1536x32x253 125#32
  have v66 : IVec S1536x32x253 32 := subi v64 v65
  have v67 : FVec F S1536x32x253 .f32 := sitofp .f32 v66
  have v68 : FVec F S1536x32x253 .f32 := exp2 v67
  have v69 : FVec F S1536x32x1 .f32 := shapeCast S1536x32x1 Y shapeCasts_S1536x32_S1536x32x1
  have v70 : FVec F S1536x32x253 .f32 := broadcastTo S1536x32x253 v69 broadcasts_S1536x32x1_S1536x32x253
  have v71 : IVec S1536x32x253 1 := cmpf .ogt v68 v70
  have cst_18 : F .f32 := Scalar.ofBits .f32 0x7F800000#32
  have v72 : FVec F S1536x32x253 .f32 := broadcast S1536x32x253 cst_18
  have v73 : FVec F S1536x32x253 .f32 := select v71 v68 v72
  have v74 : FVec F S1536x32 .f32 := multiReduction .minimumf [2] S1536x32 v73 0x7F800000#32 reduces_S1536x32x253_S1536x32 (.inl rfl) rfl
  have cst_20 : F .f32 := Scalar.ofBits .f32 0x00800000#32
  have v75 : FVec F S1536x32 .f32 := broadcast S1536x32 cst_20
  have v76 : IVec S1536x32 1 := cmpf .oge Y v75
  have cst_21 : F .f32 := Scalar.ofBits .f32 0x7E800000#32
  have v77 : FVec F S1536x32 .f32 := broadcast S1536x32 cst_21
  have v78 : IVec S1536x32 1 := cmpf .olt Y v77
  have v79 : IVec S1536x32 1 := andi v76 v78
  have cst_22 : F .f32 := Scalar.ofBits .f32 0x3F800000#32
  have v80 : FVec F S1536x32 .f32 := broadcast S1536x32 cst_22
  have v81 : FVec F S1536x32 .f32 := select v79 v74 v80
  v81

/-- Entry by entry it is the scale `scaleK`. -/
theorem scaleVecX_apply (Y : FVec Ideal S1536x24 .f32) (r : Fin 1536) (l : Fin 24) :
    scaleVecX Y (ix2 r l) = scaleK (Y (ix2 r l)) := by
  rw [(scale_eq _).1]
  pointwise [scaleVecX]
  rfl

/-- The same for the hidden values. -/
theorem scaleVecH_apply (Y : FVec Ideal S1536x32 .f32) (r : Fin 1536) (l : Fin 32) :
    scaleVecH Y (ix2 r l) = scaleK (Y (ix2 r l)) := by
  rw [(scale_eq _).1]
  pointwise [scaleVecH]
  rfl

/-- The activations by row and column. -/
abbrev rows (X : Vec Ideal S1536x3072 .bf16) : Fin 1536 → Fin 3072 → EReal := fun r d => X (ix2 r d)
/-- The weight codes by row and column. -/
abbrev rowsW (W : Vec Ideal S8192x3072 .fp8e4m3) : Fin 8192 → Fin 3072 → EReal := fun r d => W (ix2 r d)
/-- The weight scales by block row and block column. -/
abbrev rowsS (S : Vec Ideal S64x24 .f32) : Fin 64 → Fin 24 → EReal := fun r d => S (ix2 r d)

/-- The greatest value of each group of 128. -/
def maxVecX (Z : FVec F S1536x24x128 .f32) : FVec F S1536x24 .f32 :=
  multiReduction .maximumf [2] S1536x24 Z 0xFF800000#32 reduces_S1536x24x128_S1536x24 (.inl rfl) rfl

/-- A 448th of the greatest magnitude of each group of 128. -/
def yVecX (Z : FVec F S1536x24x128 .f32) : FVec F S1536x24 .f32 :=
  mulf (maxVecX (absf Z)) (broadcast S1536x24 (Scalar.ofBits .f32 0x3B124925#32))

/-- The greatest value of one group, as a fold over its 128 entries. -/
theorem maxVecX_apply (Z : FVec Ideal S1536x24x128 .f32) (r : Fin 1536) (l : Fin 24) :
    maxVecX Z (ix2 r l) = Finset.fold max (Ideal.ofBits FTy.f32 4286578688#32) (fun k : Fin 128 => Z (ix3 r l k)) Finset.univ := by
  pointwise [maxVecX]

/-- A 448th of the greatest magnitude of one group, as `yOf` of its entries. -/
theorem yVecX_apply (Z : FVec Ideal S1536x24x128 .f32) (r : Fin 1536) (l : Fin 24) :
    yVecX Z (ix2 r l) = yOf fun k => Z (ix3 r l k) := by
  unfold yVecX yOf
  rw [mulf_apply, maxVecX_apply]
  rfl

/-- The greatest value of each group of 128. -/
def maxVecH (Z : FVec F S1536x32x128 .f32) : FVec F S1536x32 .f32 :=
  multiReduction .maximumf [2] S1536x32 Z 0xFF800000#32 reduces_S1536x32x128_S1536x32 (.inl rfl) rfl

/-- A 448th of the greatest magnitude of each group of 128. -/
def yVecH (Z : FVec F S1536x32x128 .f32) : FVec F S1536x32 .f32 :=
  mulf (maxVecH (absf Z)) (broadcast S1536x32 (Scalar.ofBits .f32 0x3B124925#32))

/-- The same for the hidden values. -/
theorem maxVecH_apply (Z : FVec Ideal S1536x32x128 .f32) (r : Fin 1536) (l : Fin 32) :
    maxVecH Z (ix2 r l) = Finset.fold max (Ideal.ofBits FTy.f32 4286578688#32) (fun k : Fin 128 => Z (ix3 r l k)) Finset.univ := by
  pointwise [maxVecH]

/-- The same for the hidden values. -/
theorem yVecH_apply (Z : FVec Ideal S1536x32x128 .f32) (r : Fin 1536) (l : Fin 32) :
    yVecH Z (ix2 r l) = yOf fun k => Z (ix3 r l k) := by
  unfold yVecH yOf
  rw [mulf_apply, maxVecH_apply]
  rfl

/-- The activations' scales are `scaleVecX` of the grouped activations. -/
theorem pay3_eq (X : Vec F S1536x3072 .bf16) : k0_pay3 X = scaleVecX (yVecX (k0_pay2 X)) := rfl
/-- The hidden values' scales are `scaleVecH` of the grouped hidden values. -/
theorem pay7_eq (Q : FVec F S1536x3072 .bf16) (W : Vec F S8192x3072 .fp8e4m3) (S : Vec F S64x24 .f32) :
    k0_pay7 Q W S = scaleVecH (yVecH (k0_pay6 Q W S)) := rfl

/-- Group `l` of the grouped activations, entry `k`, is column `128 l + k`. -/
theorem pay2_apply (X : Vec Ideal S1536x3072 .bf16) (r : Fin 1536) (l : Fin 24) (k : Fin 128) :
    k0_pay2 X (ix3 r l k) = X (ix2 r (col l k)) := by
  pointwise [k0_pay2]

/-- The reference's activation scales are `xS`. -/
theorem pay3_apply (X : Vec Ideal S1536x3072 .bf16) (r : Fin 1536) (l : Fin 24) :
    k0_pay3 X (ix2 r l) = xS (rows X) r l := by
  rw [pay3_eq, scaleVecX_apply, yVecX_apply]
  simp only [pay2_apply]
  rfl

/-- The reference's codes from the grouped activations `Z` and the scales `Y`: each times the reciprocal of its scale, clipped. -/
def codesVec (Z : FVec F S1536x24x128 .f32) (Y : FVec F S1536x24 .f32) : FVec F S1536x3072 .fp8e4m3 :=
  shapeCast S1536x3072 (truncf .fp8e4m3 (minimumf (broadcast S1536x24x128 (Scalar.ofBits .f32 0x43E00000#32))
    (maximumf (broadcast S1536x24x128 (Scalar.ofBits .f32 0xC3E00000#32))
      (mulf Z (broadcastTo S1536x24x128 (shapeCast S1536x24x1 (divf (broadcast S1536x24 (Scalar.ofBits .f32 0x3F800000#32)) Y)
        shapeCasts_S1536x24_S1536x24x1) broadcasts_S1536x24x1_S1536x24x128)))) bitsLt_fp8e4m3_f32) shapeCasts_S1536x24x128_S1536x3072

/-- The activations' codes are `codesVec`. -/
theorem pay4_eq (X : Vec F S1536x3072 .bf16) : k0_pay4 X = codesVec (k0_pay2 X) (k0_pay3 X) := rfl

/-- One code: its value over its group's scale, clipped. -/
theorem codesVec_apply (Z : FVec Ideal S1536x24x128 .f32) (Y : FVec Ideal S1536x24 .f32) (r : Fin 1536) (d : Fin 3072) :
    codesVec Z Y (ix2 r d) = clip (Z (ix3 r (grp d) ⟨d.val % 128, by omega⟩) * Ideal.div 1 (Y (ix2 r (grp d)))) := by
  pointwise [codesVec]
  rfl

/-- The reference's activation codes are `xC`. -/
theorem pay4_apply (X : Vec Ideal S1536x3072 .bf16) (r : Fin 1536) (d : Fin 3072) :
    k0_pay4 X (ix2 r d) = xC (rows X) r d := by
  rw [pay4_eq, codesVec_apply, pay2_apply, pay3_apply]
  unfold xC xS
  rw [(scale_eq _).2, (scale_eq _).1]
  congr 4
  apply Fin.ext
  show d.val / 128 * 128 + d.val % 128 = d.val
  omega

/-- The reference's hidden codes before the cast, from the grouped hidden values `Z` and their scales `Y`. -/
def codesVecH (Z : FVec F S1536x32x128 .f32) (Y : FVec F S1536x32 .f32) : FVec F S1536x32x128 .f32 :=
  minimumf (broadcast S1536x32x128 (Scalar.ofBits .f32 0x43E00000#32))
    (maximumf (broadcast S1536x32x128 (Scalar.ofBits .f32 0xC3E00000#32))
      (mulf Z (broadcastTo S1536x32x128 (shapeCast S1536x32x1 (divf (broadcast S1536x32 (Scalar.ofBits .f32 0x3F800000#32)) Y)
        shapeCasts_S1536x32_S1536x32x1) broadcasts_S1536x32x1_S1536x32x128)))

/-- The hidden codes are `codesVecH`. -/
theorem pay8_eq (Q : FVec F S1536x3072 .bf16) (W : Vec F S8192x3072 .fp8e4m3) (S : Vec F S64x24 .f32) :
    k0_pay8 Q W S = codesVecH (k0_pay6 Q W S) (k0_pay7 Q W S) := rfl

/-- One hidden code: its value over its group's scale, clipped. -/
theorem codesVecH_apply (Z : FVec Ideal S1536x32x128 .f32) (Y : FVec Ideal S1536x32 .f32) (r : Fin 1536) (n : Fin 4096) :
    k0_pay1 (codesVecH Z Y) (ix2 r n) = clip (Z (ix3 r (grpH n) ⟨n.val % 128, by omega⟩) * Ideal.div 1 (Y (ix2 r (grpH n)))) := by
  pointwise [k0_pay1, codesVecH]
  rfl

/-- The reference's quantised activations are `xQ`. -/
theorem pay5_apply (X : Vec Ideal S1536x3072 .bf16) (r : Fin 1536) (d : Fin 3072) :
    k0_pay5 X (ix2 r d) = xQ (rows X) r d := by
  pointwise [k0_pay5]
  rw [pay4_apply, pay3_apply]
  rfl

/-- The reference's hidden values, grouped, are `hid`. -/
theorem pay6_apply (X : Vec Ideal S1536x3072 .bf16) (W : Vec Ideal S8192x3072 .fp8e4m3) (S : Vec Ideal S64x24 .f32)
    (r : Fin 1536) (g : Fin 32) (k : Fin 128) :
    k0_pay6 (k0_pay5 X) W S (ix3 r g k) = hid (rows X) (rowsW W) (rowsS S) r (colH g k) := by
  have hg := g.isLt
  have hk := k.isLt
  have e1 : (g.val * 128 + k.val) / 128 * 128 + k.val = g.val * 128 + k.val := by omega
  have e2 : (4096 + (g.val * 128 + k.val)) / 128 * 128 + k.val = 4096 + (g.val * 128 + k.val) := by omega
  pointwise [k0_pay6]
  simp only [e1, e2, pay5_apply]
  rfl

/-- The reference's hidden scales are `hS`. -/
theorem pay7_apply (X : Vec Ideal S1536x3072 .bf16) (W : Vec Ideal S8192x3072 .fp8e4m3) (S : Vec Ideal S64x24 .f32)
    (r : Fin 1536) (g : Fin 32) :
    k0_pay7 (k0_pay5 X) W S (ix2 r g) = hS (rows X) (rowsW W) (rowsS S) r g := by
  rw [pay7_eq, scaleVecH_apply, yVecH_apply]
  simp only [pay6_apply]
  rfl

/-- The reference's hidden codes are `hC`. -/
theorem pay8_apply (X : Vec Ideal S1536x3072 .bf16) (W : Vec Ideal S8192x3072 .fp8e4m3) (S : Vec Ideal S64x24 .f32)
    (r : Fin 1536) (n : Fin 4096) :
    k0_pay1 (k0_pay8 (k0_pay5 X) W S) (ix2 r n) = hC (rows X) (rowsW W) (rowsS S) r n := by
  have e : colH (grpH n) ⟨n.val % 128, by omega⟩ = n := Fin.ext (by show n.val / 128 * 128 + n.val % 128 = n.val; omega)
  rw [pay8_eq, codesVecH_apply, pay6_apply, pay7_apply, e]
  unfold hC hS
  rw [(scale_eq _).2, (scale_eq _).1]

end Cert.ReferenceIdeal.Gen
end
-- ==== Proof.RefEnd.lean ====
module

public import proofs.«01_k».proof.Proof.RefValue
public import proofs.«01_k».proof.Proof.Gen.ReferenceIdeal.Value

@[expose] public section

set_option maxRecDepth 16384

noncomputable section

/-! The arrays the reference ends with, read as the functions of `Values`. -/

namespace Cert.ReferenceIdeal.Gen

open Idealize.ShloMosaic Idealize.ShloMosaic.TcCoe Idealize.SL.Sem
open Cert.Scale Cert.Val

/-- A load of everything reads the contents. -/
theorem ld_x (x : Vec Ideal S1536x3072 .bf16) : View.ld x r0_0 = x := by
  funext y
  refine congrArg x (funext fun a => Fin.ext ?_)
  match a with
  | ⟨0, _⟩ => show 0 + 1 * (y 0).val = (y 0).val; omega
  | ⟨1, _⟩ => show 0 + 1 * (y 1).val = (y 1).val; omega

/-- The same of the weight codes. -/
theorem ld_w (x : Vec Ideal S8192x3072 .fp8e4m3) : View.ld x r0_1 = x := by
  funext y
  refine congrArg x (funext fun a => Fin.ext ?_)
  match a with
  | ⟨0, _⟩ => show 0 + 1 * (y 0).val = (y 0).val; omega
  | ⟨1, _⟩ => show 0 + 1 * (y 1).val = (y 1).val; omega

/-- The same of the weight scales. -/
theorem ld_s (x : Vec Ideal S64x24 .f32) : View.ld x r0_2 = x := by
  funext y
  refine congrArg x (funext fun a => Fin.ext ?_)
  match a with
  | ⟨0, _⟩ => show 0 + 1 * (y 0).val = (y 0).val; omega
  | ⟨1, _⟩ => show 0 + 1 * (y 1).val = (y 1).val; omega

section
variable (X : Vec Ideal S1536x3072 .bf16) (W : Vec Ideal S8192x3072 .fp8e4m3) (S : Vec Ideal S64x24 .f32)

/-- The codes of the hidden values. -/
def outC : Vec Ideal S1536x4096 .fp8e4m3 := fun y => hC (rows X) (rowsW W) (rowsS S) (y 0) (y 1)
/-- The scales of the hidden values. -/
def outS : Vec Ideal S1536x32 .f32 := fun y => hS (rows X) (rowsW W) (rowsS S) (y 0) (y 1)
/-- The codes of the activations. -/
def outXC : Vec Ideal S1536x3072 .fp8e4m3 := fun y => xC (rows X) (y 0) (y 1)
/-- The scales of the activations. -/
def outXS : Vec Ideal S1536x24 .f32 := fun y => xS (rows X) (y 0) (y 1)

/-- What the body stores in the first result. -/
theorem out3_eq : out0_3 X W S = outC X W S := by
  funext y
  unfold out0_3 k0_pay9
  rw [ld_x, ld_w, ld_s]
  refine View.canon_apply_of_pieces (outC X W S) _ ?_ y (cover0_3 _ y)
  intro pc hpc
  rcases List.mem_cons.mp hpc with rfl | hpc
  · intro x
    obtain ⟨r, l, rfl⟩ : ∃ (r : Fin 1536) (l : Fin 4096), x = ix2 r l := ⟨x 0, x 1, by funext a; match a with | ⟨0, _⟩ => rfl | ⟨1, _⟩ => rfl⟩
    refine (pay8_apply X W S r l).trans ?_
    refine congrArg₂ (hC (rows X) (rowsW W) (rowsS S)) (Fin.ext ?_) (Fin.ext ?_)
    · show r.val = 0 + 1 * r.val; omega
    · show l.val = 0 + 1 * l.val; omega
  · nomatch hpc

/-- What the body stores in the second result. -/
theorem out4_eq : out0_4 X W S = outS X W S := by
  funext y
  unfold out0_4 k0_pay9
  rw [ld_x, ld_w, ld_s]
  refine View.canon_apply_of_pieces (outS X W S) _ ?_ y (cover0_4 _ y)
  intro pc hpc
  rcases List.mem_cons.mp hpc with rfl | hpc
  · intro x
    obtain ⟨r, l, rfl⟩ : ∃ (r : Fin 1536) (l : Fin 32), x = ix2 r l := ⟨x 0, x 1, by funext a; match a with | ⟨0, _⟩ => rfl | ⟨1, _⟩ => rfl⟩
    refine (pay7_apply X W S r l).trans ?_
    refine congrArg₂ (hS (rows X) (rowsW W) (rowsS S)) (Fin.ext ?_) (Fin.ext ?_)
    · show r.val = 0 + 1 * r.val; omega
    · show l.val = 0 + 1 * l.val; omega
  · nomatch hpc

/-- What the body stores in the third result. -/
theorem out5_eq : out0_5 X W S = outXC X := by
  funext y
  unfold out0_5
  rw [ld_x]
  refine View.canon_apply_of_pieces (outXC X) _ ?_ y (cover0_5 _ y)
  intro pc hpc
  rcases List.mem_cons.mp hpc with rfl | hpc
  · intro x
    obtain ⟨r, l, rfl⟩ : ∃ (r : Fin 1536) (l : Fin 3072), x = ix2 r l := ⟨x 0, x 1, by funext a; match a with | ⟨0, _⟩ => rfl | ⟨1, _⟩ => rfl⟩
    refine (pay4_apply X r l).trans ?_
    refine congrArg₂ (xC (rows X)) (Fin.ext ?_) (Fin.ext ?_)
    · show r.val = 0 + 1 * r.val; omega
    · show l.val = 0 + 1 * l.val; omega
  · nomatch hpc

/-- What the body stores in the fourth result. -/
theorem out6_eq : out0_6 X W S = outXS X := by
  funext y
  unfold out0_6
  rw [ld_x]
  refine View.canon_apply_of_pieces (outXS X) _ ?_ y (cover0_6 _ y)
  intro pc hpc
  rcases List.mem_cons.mp hpc with rfl | hpc
  · intro x
    obtain ⟨r, l, rfl⟩ : ∃ (r : Fin 1536) (l : Fin 24), x = ix2 r l := ⟨x 0, x 1, by funext a; match a with | ⟨0, _⟩ => rfl | ⟨1, _⟩ => rfl⟩
    refine (pay3_apply X r l).trans ?_
    refine congrArg₂ (xS (rows X)) (Fin.ext ?_) (Fin.ext ?_)
    · show r.val = 0 + 1 * r.val; omega
    · show l.val = 0 + 1 * l.val; omega
  · nomatch hpc
end

variable (m : (ℓ : Loc nD τ sig) → Buf (Elt Ideal) ℓ)

/-- The activations as the region finds them. -/
def xIn (c : Dev nD) : Vec Ideal S1536x3072 .bf16 := V m c main_v0
/-- The weight codes as the region finds them. -/
def wIn (c : Dev nD) : Vec Ideal S8192x3072 .fp8e4m3 := V m c main_arg1
/-- The weight scales as the region finds them. -/
def sIn (c : Dev nD) : Vec Ideal S64x24 .f32 := V m c main_arg2

/-- The activations' block is the whole array. -/
theorem blk_x (c : Dev nD) (t : Fin cfg0.N) : iblk m c 0 t = xIn m c := by
  funext y
  unfold iblk xIn
  refine congrArg (V m c main_v0) ?_
  funext a
  match a with
  | ⟨0, _⟩ => exact Fin.ext (by show 0 * 1536 + 1 * (y 0).val = (y 0).val; omega)
  | ⟨1, _⟩ => exact Fin.ext (by show 0 * 3072 + 1 * (y 1).val = (y 1).val; omega)

/-- So is that of the weight codes. -/
theorem blk_w (c : Dev nD) (t : Fin cfg0.N) : iblk m c 1 t = wIn m c := by
  funext y
  unfold iblk wIn
  refine congrArg (V m c main_arg1) ?_
  funext a
  match a with
  | ⟨0, _⟩ => exact Fin.ext (by show 0 * 8192 + 1 * (y 0).val = (y 0).val; omega)
  | ⟨1, _⟩ => exact Fin.ext (by show 0 * 3072 + 1 * (y 1).val = (y 1).val; omega)

/-- So is that of the weight scales. -/
theorem blk_s (c : Dev nD) (t : Fin cfg0.N) : iblk m c 2 t = sIn m c := by
  funext y
  unfold iblk sIn
  refine congrArg (V m c main_arg2) ?_
  funext a
  match a with
  | ⟨0, _⟩ => exact Fin.ext (by show 0 * 64 + 1 * (y 0).val = (y 0).val; omega)
  | ⟨1, _⟩ => exact Fin.ext (by show 0 * 24 + 1 * (y 1).val = (y 1).val; omega)

/-- The first result in the end: the codes of the hidden values. -/
theorem end_3 (c : Dev nD) : (dats m 0 c).arrAt 3 cfg0.N = (outC (xIn m c) (wIn m c) (sIn m c) : Vec Ideal S1536x4096 .fp8e4m3) := by
  have e := (Value.blocks3 m c t0_0 (flush0_3 t0_0)).trans (Value.flushed3 m c t0_0)
  rw [blk_x, blk_w, blk_s, out3_eq] at e
  funext y
  have hy : ((cfg0.win 3).blk t0_0).view.emb y = y := by
    funext a
    match a with
    | ⟨0, _⟩ => exact Fin.ext (by show 0 * 1536 + 1 * (y 0).val = (y 0).val; omega)
    | ⟨1, _⟩ => exact Fin.ext (by show 0 * 4096 + 1 * (y 1).val = (y 1).val; omega)
  exact (congrArg ((dats m 0 c).arrAt 3 cfg0.N) hy.symm).trans (congrFun e y)

/-- The second result in the end: the scales of the hidden values. -/
theorem end_4 (c : Dev nD) : (dats m 0 c).arrAt 4 cfg0.N = (outS (xIn m c) (wIn m c) (sIn m c) : Vec Ideal S1536x32 .f32) := by
  have e := (Value.blocks4 m c t0_0 (flush0_4 t0_0)).trans (Value.flushed4 m c t0_0)
  rw [blk_x, blk_w, blk_s, out4_eq] at e
  funext y
  have hy : ((cfg0.win 4).blk t0_0).view.emb y = y := by
    funext a
    match a with
    | ⟨0, _⟩ => exact Fin.ext (by show 0 * 1536 + 1 * (y 0).val = (y 0).val; omega)
    | ⟨1, _⟩ => exact Fin.ext (by show 0 * 32 + 1 * (y 1).val = (y 1).val; omega)
  exact (congrArg ((dats m 0 c).arrAt 4 cfg0.N) hy.symm).trans (congrFun e y)

/-- The third result in the end: the codes of the activations. -/
theorem end_5 (c : Dev nD) : (dats m 0 c).arrAt 5 cfg0.N = (outXC (xIn m c) : Vec Ideal S1536x3072 .fp8e4m3) := by
  have e := (Value.blocks5 m c t0_0 (flush0_5 t0_0)).trans (Value.flushed5 m c t0_0)
  rw [blk_x, out5_eq] at e
  funext y
  have hy : ((cfg0.win 5).blk t0_0).view.emb y = y := by
    funext a
    match a with
    | ⟨0, _⟩ => exact Fin.ext (by show 0 * 1536 + 1 * (y 0).val = (y 0).val; omega)
    | ⟨1, _⟩ => exact Fin.ext (by show 0 * 3072 + 1 * (y 1).val = (y 1).val; omega)
  exact (congrArg ((dats m 0 c).arrAt 5 cfg0.N) hy.symm).trans (congrFun e y)

/-- The fourth result in the end: the scales of the activations. -/
theorem end_6 (c : Dev nD) : (dats m 0 c).arrAt 6 cfg0.N = (outXS (xIn m c) : Vec Ideal S1536x24 .f32) := by
  have e := (Value.blocks6 m c t0_0 (flush0_6 t0_0)).trans (Value.flushed6 m c t0_0)
  rw [blk_x, out6_eq] at e
  funext y
  have hy : ((cfg0.win 6).blk t0_0).view.emb y = y := by
    funext a
    match a with
    | ⟨0, _⟩ => exact Fin.ext (by show 0 * 1536 + 1 * (y 0).val = (y 0).val; omega)
    | ⟨1, _⟩ => exact Fin.ext (by show 0 * 24 + 1 * (y 1).val = (y 1).val; omega)
  exact (congrArg ((dats m 0 c).arrAt 6 cfg0.N) hy.symm).trans (congrFun e y)

/-- The activations are the first argument, its two leading axes merged. -/
theorem xIn_eq (c : Dev nD) :
    xIn m c = shapeCast S1536x3072 (m ((c : Thread nD τ).loc main_arg0) : Vec Ideal S12x128x3072 .bf16) shapeCasts_S12x128x3072_S1536x3072 := by
  show (StableHlo.reshape main_arg0 main_v0 (rfl : (.bf16 : EltTy) = .bf16) shapeCasts_S12x128x3072_S1536x3072 : HloOp τ sig (Elt Ideal)).result (fun b => m (c, b)) main_v0 = _
  rw [StableHlo.reshape_result]
  rfl

/-- The weight codes are the second argument. -/
theorem wIn_eq (c : Dev nD) : wIn m c = m ((c : Thread nD τ).loc main_arg1) := V_main_arg1 m c

/-- The weight scales are the third argument. -/
theorem sIn_eq (c : Dev nD) : sIn m c = m ((c : Thread nD τ).loc main_arg2) := V_main_arg2 m c

end Cert.ReferenceIdeal.Gen
end
-- ==== Proof.Algebraic.lean ====
module

public import proofs.«01_k».proof.Defs
public import proofs.«01_k».proof.Proof.KernelEnd
public import proofs.«01_k».proof.Proof.RefEnd

@[expose] public section

set_option maxRecDepth 16384

noncomputable section

/-! The kernel and the reference end with the same four results. -/

namespace Cert.Proof

open Idealize.ShloMosaic Idealize.ShloMosaic.TcCoe Idealize.SL.Sem
open Cert.Val

/-- From memories agreeing on the arguments the kernel's activations, by row and column, are the reference's. -/
theorem rows_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Gen.rows (Cert.ReferenceIdeal.Gen.xIn m' c) = Cert.KernelIdeal.Gen.X0 m c := by
  have e : (Cert.ReferenceIdeal.Gen.xIn m' c : (⟨2, ![1536, 3072]⟩ : Shape).Idx → EReal) = Cert.KernelIdeal.Gen.xIn m c :=
    (Cert.ReferenceIdeal.Gen.xIn_eq m' c).trans ((congrArg (fun z : (⟨3, ![12, 128, 3072]⟩ : Shape).Idx → EReal => shapeCast (⟨2, ![1536, 3072]⟩ : Shape) z Cert.KernelIdeal.Gen.shapeCasts_S12x128x3072_S1536x3072) h).trans (Cert.KernelIdeal.Gen.xIn_eq m c).symm)
  funext r d
  exact congrFun e (ix2 r d)

/-- The same of the weight codes. -/
theorem rowsW_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Gen.rowsW (Cert.ReferenceIdeal.Gen.wIn m' c) = Cert.KernelIdeal.Gen.W0 m c := by
  have e : (Cert.ReferenceIdeal.Gen.wIn m' c : (⟨2, ![8192, 3072]⟩ : Shape).Idx → EReal) = Cert.KernelIdeal.Gen.wIn m c :=
    (Cert.ReferenceIdeal.Gen.wIn_eq m' c).trans (Eq.trans h (Cert.KernelIdeal.Gen.wIn_eq m c).symm)
  funext r d
  exact congrFun e (ix2 r d)

/-- The same of the weight scales. -/
theorem rowsS_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Gen.rowsS (Cert.ReferenceIdeal.Gen.sIn m' c) = Cert.KernelIdeal.Gen.S0 m c := by
  have e : (Cert.ReferenceIdeal.Gen.sIn m' c : (⟨2, ![64, 24]⟩ : Shape).Idx → EReal) = Cert.KernelIdeal.Gen.sIn m c :=
    (Cert.ReferenceIdeal.Gen.sIn_eq m' c).trans (Eq.trans h (Cert.KernelIdeal.Gen.sIn_eq m c).symm)
  funext r d
  exact congrFun e (ix2 r d)

/-- The algebraic claim: over the extended reals the kernel and the reference, from memories agreeing on the arguments, both run,
leave equal results and leave the arguments as they were. -/
theorem algebraic : Cert.algebraic_KernelIdeal_ReferenceIdeal (hKernelIdeal := Cert.KernelIdeal.Gen.facts) (hReferenceIdeal := Cert.ReferenceIdeal.Gen.facts) := by
  intro m g m' g' _ h
  refine ⟨_, _, _, _, Cert.KernelIdeal.Gen.run_values m g, ?_⟩
  refine (θ_run Cert.ReferenceIdeal.defs _ _).mono (fun r hr c => ?_) (Cert.ReferenceIdeal.Value.run_blocks m' g')
  obtain ⟨h0, h1, h2⟩ := h c
  have eX := rows_eq m m' c h0
  have eW := rowsW_eq m m' c h1
  have eS := rowsS_eq m m' c h2
  obtain ⟨r0, r1, r2, r3, ra⟩ := hr c
  refine ⟨r0.trans ((Cert.ReferenceIdeal.Gen.end_3 m' c).trans ?_), r1.trans ((Cert.ReferenceIdeal.Gen.end_4 m' c).trans ?_),
    r2.trans ((Cert.ReferenceIdeal.Gen.end_5 m' c).trans ?_), r3.trans ((Cert.ReferenceIdeal.Gen.end_6 m' c).trans ?_), ra⟩
  · unfold Cert.ReferenceIdeal.Gen.outC
    rw [eX, eW, eS]
  · unfold Cert.ReferenceIdeal.Gen.outS
    rw [eX, eW, eS]
  · unfold Cert.ReferenceIdeal.Gen.outXC
    rw [eX]
    rfl
  · unfold Cert.ReferenceIdeal.Gen.outXS
    rw [eX]
    rfl

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame.Frame
public import proofs.«01_k».proof.Proof.FrameI
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
